-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_finite [hPre_queries_finite : Cert.Pre_queries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_queries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_queries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_queries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_finite [hPre_queries_finite : Cert.Pre_queries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_queries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_queries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_queries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_NextWeightsReferenceIdeal (m : (ℓ : Loc Cert.NextWeightsReferenceIdeal.nD Cert.NextWeightsReferenceIdeal.τ Cert.NextWeightsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_queries_finite [hKernelIdeal : Cert.KernelIdeal.Facts] [hPre_queries_finite : Cert.Pre_queries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_queries_finite [hReferenceIdeal : Cert.ReferenceIdeal.Facts] [hPre_queries_finite : Cert.Pre_queries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3)
      ∧ r.2.mem ((c.tc : Thread Cert.MemKv.nD Cert.MemKv.τ).loc Cert.MemKv.main_arg4) = m ((c.tc : Thread Cert.MemKv.nD Cert.MemKv.τ).loc Cert.MemKv.main_arg4)
      ∧ r.2.mem ((c.tc : Thread Cert.MemKv.nD Cert.MemKv.τ).loc Cert.MemKv.main_arg5) = m ((c.tc : Thread Cert.MemKv.nD Cert.MemKv.τ).loc Cert.MemKv.main_arg5))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
      ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4)
      ∧ r.2.mem ((c.tc : Thread Cert.MemKvIdeal.nD Cert.MemKvIdeal.τ).loc Cert.MemKvIdeal.main_arg5) = m ((c.tc : Thread Cert.MemKvIdeal.nD Cert.MemKvIdeal.τ).loc Cert.MemKvIdeal.main_arg5))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3)
      ∧ r.2.mem ((c.tc : Thread Cert.MemKvReferenceIdeal.nD Cert.MemKvReferenceIdeal.τ).loc Cert.MemKvReferenceIdeal.main_arg4) = m ((c.tc : Thread Cert.MemKvReferenceIdeal.nD Cert.MemKvReferenceIdeal.τ).loc Cert.MemKvReferenceIdeal.main_arg4)
      ∧ r.2.mem ((c.tc : Thread Cert.MemKvReferenceIdeal.nD Cert.MemKvReferenceIdeal.τ).loc Cert.MemKvReferenceIdeal.main_arg5) = m ((c.tc : Thread Cert.MemKvReferenceIdeal.nD Cert.MemKvReferenceIdeal.τ).loc Cert.MemKvReferenceIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_NextWeightsReferenceIdeal [hNextWeightsReferenceIdeal : Cert.NextWeightsReferenceIdeal.Facts] : Prop :=
  ∀ (m : (ℓ : Loc Cert.NextWeightsReferenceIdeal.nD Cert.NextWeightsReferenceIdeal.τ Cert.NextWeightsReferenceIdeal.sig) → Buf (Elt Ideal) ℓ) (g : Dev Cert.NextWeightsReferenceIdeal.nD → PrngReg), Pre_NextWeightsReferenceIdeal m →
    θ_run (Cert.NextWeightsReferenceIdeal.defs (F := Ideal)) (onTc (τ := Cert.NextWeightsReferenceIdeal.τ) (Cert.NextWeightsReferenceIdeal.main (F := Ideal))) ⟨m, fun _ => 0, g⟩ (fun r => (∀ c : Dev Cert.NextWeightsReferenceIdeal.nD,
      r.2.mem ((c.tc : Thread Cert.NextWeightsReferenceIdeal.nD Cert.NextWeightsReferenceIdeal.τ).loc Cert.NextWeightsReferenceIdeal.main_arg0) = m ((c.tc : Thread Cert.NextWeightsReferenceIdeal.nD Cert.NextWeightsReferenceIdeal.τ).loc Cert.NextWeightsReferenceIdeal.main_arg0)
      ∧ r.2.mem ((c.tc : Thread Cert.NextWeightsReferenceIdeal.nD Cert.NextWeightsReferenceIdeal.τ).loc Cert.NextWeightsReferenceIdeal.main_arg1) = m ((c.tc : Thread Cert.NextWeightsReferenceIdeal.nD Cert.NextWeightsReferenceIdeal.τ).loc Cert.NextWeightsReferenceIdeal.main_arg1)
      ∧ r.2.mem ((c.tc : Thread Cert.NextWeightsReferenceIdeal.nD Cert.NextWeightsReferenceIdeal.τ).loc Cert.NextWeightsReferenceIdeal.main_arg2) = m ((c.tc : Thread Cert.NextWeightsReferenceIdeal.nD Cert.NextWeightsReferenceIdeal.τ).loc Cert.NextWeightsReferenceIdeal.main_arg2)
      ∧ r.2.mem ((c.tc : Thread Cert.NextWeightsReferenceIdeal.nD Cert.NextWeightsReferenceIdeal.τ).loc Cert.NextWeightsReferenceIdeal.main_arg3) = m ((c.tc : Thread Cert.NextWeightsReferenceIdeal.nD Cert.NextWeightsReferenceIdeal.τ).loc Cert.NextWeightsReferenceIdeal.main_arg3)
      ∧ r.2.mem ((c.tc : Thread Cert.NextWeightsReferenceIdeal.nD Cert.NextWeightsReferenceIdeal.τ).loc Cert.NextWeightsReferenceIdeal.main_arg4) = m ((c.tc : Thread Cert.NextWeightsReferenceIdeal.nD Cert.NextWeightsReferenceIdeal.τ).loc Cert.NextWeightsReferenceIdeal.main_arg4)
      ∧ r.2.mem ((c.tc : Thread Cert.NextWeightsReferenceIdeal.nD Cert.NextWeightsReferenceIdeal.τ).loc Cert.NextWeightsReferenceIdeal.main_arg5) = m ((c.tc : Thread Cert.NextWeightsReferenceIdeal.nD Cert.NextWeightsReferenceIdeal.τ).loc Cert.NextWeightsReferenceIdeal.main_arg5)
      ∧ r.2.mem ((c.tc : Thread Cert.NextWeightsReferenceIdeal.nD Cert.NextWeightsReferenceIdeal.τ).loc Cert.NextWeightsReferenceIdeal.main_arg6) = m ((c.tc : Thread Cert.NextWeightsReferenceIdeal.nD Cert.NextWeightsReferenceIdeal.τ).loc Cert.NextWeightsReferenceIdeal.main_arg6)
      ∧ r.2.mem ((c.tc : Thread Cert.NextWeightsReferenceIdeal.nD Cert.NextWeightsReferenceIdeal.τ).loc Cert.NextWeightsReferenceIdeal.main_arg7) = m ((c.tc : Thread Cert.NextWeightsReferenceIdeal.nD Cert.NextWeightsReferenceIdeal.τ).loc Cert.NextWeightsReferenceIdeal.main_arg7)
      ∧ r.2.mem ((c.tc : Thread Cert.NextWeightsReferenceIdeal.nD Cert.NextWeightsReferenceIdeal.τ).loc Cert.NextWeightsReferenceIdeal.main_arg8) = m ((c.tc : Thread Cert.NextWeightsReferenceIdeal.nD Cert.NextWeightsReferenceIdeal.τ).loc Cert.NextWeightsReferenceIdeal.main_arg8)
      ∧ r.2.mem ((c.tc : Thread Cert.NextWeightsReferenceIdeal.nD Cert.NextWeightsReferenceIdeal.τ).loc Cert.NextWeightsReferenceIdeal.main_arg9) = m ((c.tc : Thread Cert.NextWeightsReferenceIdeal.nD Cert.NextWeightsReferenceIdeal.τ).loc Cert.NextWeightsReferenceIdeal.main_arg9)
      ∧ r.2.mem ((c.tc : Thread Cert.NextWeightsReferenceIdeal.nD Cert.NextWeightsReferenceIdeal.τ).loc Cert.NextWeightsReferenceIdeal.main_arg10) = m ((c.tc : Thread Cert.NextWeightsReferenceIdeal.nD Cert.NextWeightsReferenceIdeal.τ).loc Cert.NextWeightsReferenceIdeal.main_arg10)
      ∧ r.2.mem ((c.tc : Thread Cert.NextWeightsReferenceIdeal.nD Cert.NextWeightsReferenceIdeal.τ).loc Cert.NextWeightsReferenceIdeal.main_arg11) = m ((c.tc : Thread Cert.NextWeightsReferenceIdeal.nD Cert.NextWeightsReferenceIdeal.τ).loc Cert.NextWeightsReferenceIdeal.main_arg11)
      ∧ r.2.mem ((c.tc : Thread Cert.NextWeightsReferenceIdeal.nD Cert.NextWeightsReferenceIdeal.τ).loc Cert.NextWeightsReferenceIdeal.main_arg12) = m ((c.tc : Thread Cert.NextWeightsReferenceIdeal.nD Cert.NextWeightsReferenceIdeal.τ).loc Cert.NextWeightsReferenceIdeal.main_arg12))
      ∧ r.2.sem = fun _ => 0)

def preserves_Kernel_KernelIdeal : Prop :=
  IdealRules.named_const.Statement Cert.KernelIdeal.κ "q_scale" .f32 0x3DB8AA3B#32 (((1 / 16) * (Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_queries_finite [hKernelIdeal : Cert.KernelIdeal.Facts] [hReferenceIdeal : Cert.ReferenceIdeal.Facts] [hPre_queries_finite : Cert.Pre_queries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)
      ∧ m' ((c.tc : Thread Cert.MemKvReferenceIdeal.nD Cert.MemKvReferenceIdeal.τ).loc Cert.MemKvReferenceIdeal.main_arg3) = m ((c.tc : Thread Cert.MemKvIdeal.nD Cert.MemKvIdeal.τ).loc Cert.MemKvIdeal.main_arg3)
      ∧ m' ((c.tc : Thread Cert.MemKvReferenceIdeal.nD Cert.MemKvReferenceIdeal.τ).loc Cert.MemKvReferenceIdeal.main_arg4) = m ((c.tc : Thread Cert.MemKvIdeal.nD Cert.MemKvIdeal.τ).loc Cert.MemKvIdeal.main_arg4)
      ∧ m' ((c.tc : Thread Cert.MemKvReferenceIdeal.nD Cert.MemKvReferenceIdeal.τ).loc Cert.MemKvReferenceIdeal.main_arg5) = m ((c.tc : Thread Cert.MemKvIdeal.nD Cert.MemKvIdeal.τ).loc Cert.MemKvIdeal.main_arg5)) →
    ∃ (v0 : (c : Dev Cert.MemKvIdeal.nD) → Buf (Elt Ideal) ((c.tc : Thread Cert.MemKvIdeal.nD Cert.MemKvIdeal.τ).loc Cert.MemKvIdeal.main_v6_0)) (v1 : (c : Dev Cert.MemKvIdeal.nD) → Buf (Elt Ideal) ((c.tc : Thread Cert.MemKvIdeal.nD Cert.MemKvIdeal.τ).loc Cert.MemKvIdeal.main_v6_1)) (v2 : (c : Dev Cert.MemKvIdeal.nD) → Buf (Elt Ideal) ((c.tc : Thread Cert.MemKvIdeal.nD Cert.MemKvIdeal.τ).loc Cert.MemKvIdeal.main_v6_2)) (v3 : (c : Dev Cert.MemKvIdeal.nD) → Buf (Elt Ideal) ((c.tc : Thread Cert.MemKvIdeal.nD Cert.MemKvIdeal.τ).loc Cert.MemKvIdeal.main_v6_3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v6_0) = v0 c
          ∧ r.2.mem ((c.tc : Thread Cert.MemKvIdeal.nD Cert.MemKvIdeal.τ).loc Cert.MemKvIdeal.main_v6_1) = v1 c
          ∧ r.2.mem ((c.tc : Thread Cert.MemKvIdeal.nD Cert.MemKvIdeal.τ).loc Cert.MemKvIdeal.main_v6_2) = v2 c
          ∧ r.2.mem ((c.tc : Thread Cert.MemKvIdeal.nD Cert.MemKvIdeal.τ).loc Cert.MemKvIdeal.main_v6_3) = v3 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3)
          ∧ r.2.mem ((c.tc : Thread Cert.MemKvIdeal.nD Cert.MemKvIdeal.τ).loc Cert.MemKvIdeal.main_arg4) = m ((c.tc : Thread Cert.MemKvIdeal.nD Cert.MemKvIdeal.τ).loc Cert.MemKvIdeal.main_arg4)
          ∧ r.2.mem ((c.tc : Thread Cert.MemKvIdeal.nD Cert.MemKvIdeal.τ).loc Cert.MemKvIdeal.main_arg5) = m ((c.tc : Thread Cert.MemKvIdeal.nD Cert.MemKvIdeal.τ).loc Cert.MemKvIdeal.main_arg5))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v19) = v0 c
          ∧ r.2.mem ((c.tc : Thread Cert.MemKvReferenceIdeal.nD Cert.MemKvReferenceIdeal.τ).loc Cert.MemKvReferenceIdeal.main_v20) = v1 c
          ∧ r.2.mem ((c.tc : Thread Cert.MemKvReferenceIdeal.nD Cert.MemKvReferenceIdeal.τ).loc Cert.MemKvReferenceIdeal.main_v22) = v2 c
          ∧ r.2.mem ((c.tc : Thread Cert.MemKvReferenceIdeal.nD Cert.MemKvReferenceIdeal.τ).loc Cert.MemKvReferenceIdeal.main_v24) = v3 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3)
          ∧ r.2.mem ((c.tc : Thread Cert.MemKvReferenceIdeal.nD Cert.MemKvReferenceIdeal.τ).loc Cert.MemKvReferenceIdeal.main_arg4) = m' ((c.tc : Thread Cert.MemKvReferenceIdeal.nD Cert.MemKvReferenceIdeal.τ).loc Cert.MemKvReferenceIdeal.main_arg4)
          ∧ r.2.mem ((c.tc : Thread Cert.MemKvReferenceIdeal.nD Cert.MemKvReferenceIdeal.τ).loc Cert.MemKvReferenceIdeal.main_arg5) = m' ((c.tc : Thread Cert.MemKvReferenceIdeal.nD Cert.MemKvReferenceIdeal.τ).loc Cert.MemKvReferenceIdeal.main_arg5))

def preserves_Mixer_MixerIdeal : Prop :=
  True

def algebraic_MixerIdeal_NextWeightsReferenceIdeal [hMixerIdeal : Cert.MixerIdeal.Facts] [hNextWeightsReferenceIdeal : Cert.NextWeightsReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.NextWeightsReferenceIdeal.nD Cert.NextWeightsReferenceIdeal.τ Cert.NextWeightsReferenceIdeal.sig) → Buf (Elt Ideal) ℓ) (g' : Dev Cert.NextWeightsReferenceIdeal.nD → PrngReg), Pre_MixerIdeal m →
    (∀ c : Dev Cert.MixerIdeal.nD,
      m' ((c.tc : Thread Cert.NextWeightsReferenceIdeal.nD Cert.NextWeightsReferenceIdeal.τ).loc Cert.NextWeightsReferenceIdeal.main_arg0) = m ((c.tc : Thread Cert.MixerIdeal.nD Cert.MixerIdeal.τ).loc Cert.MixerIdeal.main_arg0)
      ∧ m' ((c.tc : Thread Cert.NextWeightsReferenceIdeal.nD Cert.NextWeightsReferenceIdeal.τ).loc Cert.NextWeightsReferenceIdeal.main_arg1) = m ((c.tc : Thread Cert.MixerIdeal.nD Cert.MixerIdeal.τ).loc Cert.MixerIdeal.main_arg1)
      ∧ m' ((c.tc : Thread Cert.NextWeightsReferenceIdeal.nD Cert.NextWeightsReferenceIdeal.τ).loc Cert.NextWeightsReferenceIdeal.main_arg2) = m ((c.tc : Thread Cert.MixerIdeal.nD Cert.MixerIdeal.τ).loc Cert.MixerIdeal.main_arg2)
      ∧ m' ((c.tc : Thread Cert.NextWeightsReferenceIdeal.nD Cert.NextWeightsReferenceIdeal.τ).loc Cert.NextWeightsReferenceIdeal.main_arg3) = m ((c.tc : Thread Cert.MixerIdeal.nD Cert.MixerIdeal.τ).loc Cert.MixerIdeal.main_arg3)
      ∧ m' ((c.tc : Thread Cert.NextWeightsReferenceIdeal.nD Cert.NextWeightsReferenceIdeal.τ).loc Cert.NextWeightsReferenceIdeal.main_arg4) = m ((c.tc : Thread Cert.MixerIdeal.nD Cert.MixerIdeal.τ).loc Cert.MixerIdeal.main_arg4)
      ∧ m' ((c.tc : Thread Cert.NextWeightsReferenceIdeal.nD Cert.NextWeightsReferenceIdeal.τ).loc Cert.NextWeightsReferenceIdeal.main_arg5) = m ((c.tc : Thread Cert.MixerIdeal.nD Cert.MixerIdeal.τ).loc Cert.MixerIdeal.main_arg5)
      ∧ m' ((c.tc : Thread Cert.NextWeightsReferenceIdeal.nD Cert.NextWeightsReferenceIdeal.τ).loc Cert.NextWeightsReferenceIdeal.main_arg6) = m ((c.tc : Thread Cert.MixerIdeal.nD Cert.MixerIdeal.τ).loc Cert.MixerIdeal.main_arg6)
      ∧ m' ((c.tc : Thread Cert.NextWeightsReferenceIdeal.nD Cert.NextWeightsReferenceIdeal.τ).loc Cert.NextWeightsReferenceIdeal.main_arg7) = m ((c.tc : Thread Cert.MixerIdeal.nD Cert.MixerIdeal.τ).loc Cert.MixerIdeal.main_arg7)
      ∧ m' ((c.tc : Thread Cert.NextWeightsReferenceIdeal.nD Cert.NextWeightsReferenceIdeal.τ).loc Cert.NextWeightsReferenceIdeal.main_arg8) = m ((c.tc : Thread Cert.MixerIdeal.nD Cert.MixerIdeal.τ).loc Cert.MixerIdeal.main_arg8)
      ∧ m' ((c.tc : Thread Cert.NextWeightsReferenceIdeal.nD Cert.NextWeightsReferenceIdeal.τ).loc Cert.NextWeightsReferenceIdeal.main_arg9) = m ((c.tc : Thread Cert.MixerIdeal.nD Cert.MixerIdeal.τ).loc Cert.MixerIdeal.main_arg9)
      ∧ m' ((c.tc : Thread Cert.NextWeightsReferenceIdeal.nD Cert.NextWeightsReferenceIdeal.τ).loc Cert.NextWeightsReferenceIdeal.main_arg10) = m ((c.tc : Thread Cert.MixerIdeal.nD Cert.MixerIdeal.τ).loc Cert.MixerIdeal.main_arg10)
      ∧ m' ((c.tc : Thread Cert.NextWeightsReferenceIdeal.nD Cert.NextWeightsReferenceIdeal.τ).loc Cert.NextWeightsReferenceIdeal.main_arg11) = m ((c.tc : Thread Cert.MixerIdeal.nD Cert.MixerIdeal.τ).loc Cert.MixerIdeal.main_arg11)
      ∧ m' ((c.tc : Thread Cert.NextWeightsReferenceIdeal.nD Cert.NextWeightsReferenceIdeal.τ).loc Cert.NextWeightsReferenceIdeal.main_arg12) = m ((c.tc : Thread Cert.MixerIdeal.nD Cert.MixerIdeal.τ).loc Cert.MixerIdeal.main_arg12)) →
    ∃ (v0 : (c : Dev Cert.MixerIdeal.nD) → Buf (Elt Ideal) ((c.tc : Thread Cert.MixerIdeal.nD Cert.MixerIdeal.τ).loc Cert.MixerIdeal.main_v12_1)) (v1 : (c : Dev Cert.MixerIdeal.nD) → Buf (Elt Ideal) ((c.tc : Thread Cert.MixerIdeal.nD Cert.MixerIdeal.τ).loc Cert.MixerIdeal.main_v12_2)) (v2 : (c : Dev Cert.MixerIdeal.nD) → Buf (Elt Ideal) ((c.tc : Thread Cert.MixerIdeal.nD Cert.MixerIdeal.τ).loc Cert.MixerIdeal.main_v12_3)) (v3 : (c : Dev Cert.MixerIdeal.nD) → Buf (Elt Ideal) ((c.tc : Thread Cert.MixerIdeal.nD Cert.MixerIdeal.τ).loc Cert.MixerIdeal.main_v12_4)) (v4 : (c : Dev Cert.MixerIdeal.nD) → Buf (Elt Ideal) ((c.tc : Thread Cert.MixerIdeal.nD Cert.MixerIdeal.τ).loc Cert.MixerIdeal.main_v12_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v12_1) = v0 c
          ∧ r.2.mem ((c.tc : Thread Cert.MixerIdeal.nD Cert.MixerIdeal.τ).loc Cert.MixerIdeal.main_v12_2) = v1 c
          ∧ r.2.mem ((c.tc : Thread Cert.MixerIdeal.nD Cert.MixerIdeal.τ).loc Cert.MixerIdeal.main_v12_3) = v2 c
          ∧ r.2.mem ((c.tc : Thread Cert.MixerIdeal.nD Cert.MixerIdeal.τ).loc Cert.MixerIdeal.main_v12_4) = v3 c
          ∧ r.2.mem ((c.tc : Thread Cert.MixerIdeal.nD Cert.MixerIdeal.τ).loc Cert.MixerIdeal.main_v12_5) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ θ_run (Cert.NextWeightsReferenceIdeal.defs (F := Ideal)) (onTc (τ := Cert.NextWeightsReferenceIdeal.τ) (Cert.NextWeightsReferenceIdeal.main (F := Ideal))) ⟨m', fun _ => 0, g'⟩ (fun r => ∀ c : Dev Cert.NextWeightsReferenceIdeal.nD,
          r.2.mem ((c.tc : Thread Cert.NextWeightsReferenceIdeal.nD Cert.NextWeightsReferenceIdeal.τ).loc Cert.NextWeightsReferenceIdeal.main_v1) = v0 c
          ∧ r.2.mem ((c.tc : Thread Cert.NextWeightsReferenceIdeal.nD Cert.NextWeightsReferenceIdeal.τ).loc Cert.NextWeightsReferenceIdeal.main_v3) = v1 c
          ∧ r.2.mem ((c.tc : Thread Cert.NextWeightsReferenceIdeal.nD Cert.NextWeightsReferenceIdeal.τ).loc Cert.NextWeightsReferenceIdeal.main_v5) = v2 c
          ∧ r.2.mem ((c.tc : Thread Cert.NextWeightsReferenceIdeal.nD Cert.NextWeightsReferenceIdeal.τ).loc Cert.NextWeightsReferenceIdeal.main_v7) = v3 c
          ∧ r.2.mem ((c.tc : Thread Cert.NextWeightsReferenceIdeal.nD Cert.NextWeightsReferenceIdeal.τ).loc Cert.NextWeightsReferenceIdeal.main_v9) = v4 c
          ∧ r.2.mem ((c.tc : Thread Cert.NextWeightsReferenceIdeal.nD Cert.NextWeightsReferenceIdeal.τ).loc Cert.NextWeightsReferenceIdeal.main_arg0) = m' ((c.tc : Thread Cert.NextWeightsReferenceIdeal.nD Cert.NextWeightsReferenceIdeal.τ).loc Cert.NextWeightsReferenceIdeal.main_arg0)
          ∧ r.2.mem ((c.tc : Thread Cert.NextWeightsReferenceIdeal.nD Cert.NextWeightsReferenceIdeal.τ).loc Cert.NextWeightsReferenceIdeal.main_arg1) = m' ((c.tc : Thread Cert.NextWeightsReferenceIdeal.nD Cert.NextWeightsReferenceIdeal.τ).loc Cert.NextWeightsReferenceIdeal.main_arg1)
          ∧ r.2.mem ((c.tc : Thread Cert.NextWeightsReferenceIdeal.nD Cert.NextWeightsReferenceIdeal.τ).loc Cert.NextWeightsReferenceIdeal.main_arg2) = m' ((c.tc : Thread Cert.NextWeightsReferenceIdeal.nD Cert.NextWeightsReferenceIdeal.τ).loc Cert.NextWeightsReferenceIdeal.main_arg2)
          ∧ r.2.mem ((c.tc : Thread Cert.NextWeightsReferenceIdeal.nD Cert.NextWeightsReferenceIdeal.τ).loc Cert.NextWeightsReferenceIdeal.main_arg3) = m' ((c.tc : Thread Cert.NextWeightsReferenceIdeal.nD Cert.NextWeightsReferenceIdeal.τ).loc Cert.NextWeightsReferenceIdeal.main_arg3)
          ∧ r.2.mem ((c.tc : Thread Cert.NextWeightsReferenceIdeal.nD Cert.NextWeightsReferenceIdeal.τ).loc Cert.NextWeightsReferenceIdeal.main_arg4) = m' ((c.tc : Thread Cert.NextWeightsReferenceIdeal.nD Cert.NextWeightsReferenceIdeal.τ).loc Cert.NextWeightsReferenceIdeal.main_arg4)
          ∧ r.2.mem ((c.tc : Thread Cert.NextWeightsReferenceIdeal.nD Cert.NextWeightsReferenceIdeal.τ).loc Cert.NextWeightsReferenceIdeal.main_arg5) = m' ((c.tc : Thread Cert.NextWeightsReferenceIdeal.nD Cert.NextWeightsReferenceIdeal.τ).loc Cert.NextWeightsReferenceIdeal.main_arg5)
          ∧ r.2.mem ((c.tc : Thread Cert.NextWeightsReferenceIdeal.nD Cert.NextWeightsReferenceIdeal.τ).loc Cert.NextWeightsReferenceIdeal.main_arg6) = m' ((c.tc : Thread Cert.NextWeightsReferenceIdeal.nD Cert.NextWeightsReferenceIdeal.τ).loc Cert.NextWeightsReferenceIdeal.main_arg6)
          ∧ r.2.mem ((c.tc : Thread Cert.NextWeightsReferenceIdeal.nD Cert.NextWeightsReferenceIdeal.τ).loc Cert.NextWeightsReferenceIdeal.main_arg7) = m' ((c.tc : Thread Cert.NextWeightsReferenceIdeal.nD Cert.NextWeightsReferenceIdeal.τ).loc Cert.NextWeightsReferenceIdeal.main_arg7)
          ∧ r.2.mem ((c.tc : Thread Cert.NextWeightsReferenceIdeal.nD Cert.NextWeightsReferenceIdeal.τ).loc Cert.NextWeightsReferenceIdeal.main_arg8) = m' ((c.tc : Thread Cert.NextWeightsReferenceIdeal.nD Cert.NextWeightsReferenceIdeal.τ).loc Cert.NextWeightsReferenceIdeal.main_arg8)
          ∧ r.2.mem ((c.tc : Thread Cert.NextWeightsReferenceIdeal.nD Cert.NextWeightsReferenceIdeal.τ).loc Cert.NextWeightsReferenceIdeal.main_arg9) = m' ((c.tc : Thread Cert.NextWeightsReferenceIdeal.nD Cert.NextWeightsReferenceIdeal.τ).loc Cert.NextWeightsReferenceIdeal.main_arg9)
          ∧ r.2.mem ((c.tc : Thread Cert.NextWeightsReferenceIdeal.nD Cert.NextWeightsReferenceIdeal.τ).loc Cert.NextWeightsReferenceIdeal.main_arg10) = m' ((c.tc : Thread Cert.NextWeightsReferenceIdeal.nD Cert.NextWeightsReferenceIdeal.τ).loc Cert.NextWeightsReferenceIdeal.main_arg10)
          ∧ r.2.mem ((c.tc : Thread Cert.NextWeightsReferenceIdeal.nD Cert.NextWeightsReferenceIdeal.τ).loc Cert.NextWeightsReferenceIdeal.main_arg11) = m' ((c.tc : Thread Cert.NextWeightsReferenceIdeal.nD Cert.NextWeightsReferenceIdeal.τ).loc Cert.NextWeightsReferenceIdeal.main_arg11)
          ∧ r.2.mem ((c.tc : Thread Cert.NextWeightsReferenceIdeal.nD Cert.NextWeightsReferenceIdeal.τ).loc Cert.NextWeightsReferenceIdeal.main_arg12) = m' ((c.tc : Thread Cert.NextWeightsReferenceIdeal.nD Cert.NextWeightsReferenceIdeal.τ).loc Cert.NextWeightsReferenceIdeal.main_arg12))

def Claim : Prop :=
  ∃ (hKernel : Cert.Kernel.Facts) (hKernelIdeal : Cert.KernelIdeal.Facts) (hReferenceIdeal : Cert.ReferenceIdeal.Facts) (hMemKv : Cert.MemKv.Facts) (hMemKvIdeal : Cert.MemKvIdeal.Facts) (hMemKvReferenceIdeal : Cert.MemKvReferenceIdeal.Facts) (hMixer : Cert.Mixer.Facts) (hMixerIdeal : Cert.MixerIdeal.Facts) (hNextWeightsReferenceIdeal : Cert.NextWeightsReferenceIdeal.Facts) (hPre_queries_finite : Cert.Pre_queries_finite.Facts),
    quiescent_Kernel (hKernel := hKernel)
    ∧ quiescent_KernelIdeal (hKernelIdeal := hKernelIdeal)
    ∧ quiescent_KernelIdeal_pre_queries_finite (hKernelIdeal := hKernelIdeal) (hPre_queries_finite := hPre_queries_finite)
    ∧ quiescent_ReferenceIdeal (hReferenceIdeal := hReferenceIdeal)
    ∧ quiescent_ReferenceIdeal_pre_queries_finite (hReferenceIdeal := hReferenceIdeal) (hPre_queries_finite := hPre_queries_finite)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_Mixer (hMixer := hMixer)
    ∧ quiescent_MixerIdeal (hMixerIdeal := hMixerIdeal)
    ∧ quiescent_NextWeightsReferenceIdeal (hNextWeightsReferenceIdeal := hNextWeightsReferenceIdeal)
    ∧ preserves_Kernel_KernelIdeal
    ∧ algebraic_KernelIdeal_ReferenceIdeal_pre_queries_finite (hKernelIdeal := hKernelIdeal) (hReferenceIdeal := hReferenceIdeal) (hPre_queries_finite := hPre_queries_finite)
    ∧ preserves_MemKv_MemKvIdeal
    ∧ algebraic_MemKvIdeal_MemKvReferenceIdeal (hMemKvIdeal := hMemKvIdeal) (hMemKvReferenceIdeal := hMemKvReferenceIdeal)
    ∧ preserves_Mixer_MixerIdeal
    ∧ algebraic_MixerIdeal_NextWeightsReferenceIdeal (hMixerIdeal := hMixerIdeal) (hNextWeightsReferenceIdeal := hNextWeightsReferenceIdeal)
-- ==== Pre_queries_finite.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩

class Facts : Prop where
  bcast_S_S8x4096x1024 : S_.BroadcastsInDim S8x4096x1024 (![] : Fin 0 → Fin S8x4096x1024.rank)
  bitsLt_bf16_f32 : FTy.bits .bf16 < FTy.bits .f32
  bcast_S_S8x1024x256 : S_.BroadcastsInDim S8x1024x256 (![] : Fin 0 → Fin S8x1024x256.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S8x4096x1024 .f32) (main_arg1 : FVec F S8x1024x256 .bf16) (main_arg2 : FVec F S8x256x1024 .bf16) (main_arg3 : FVec F S1x1024 .f32) (main_arg4 : FVec F S1x1024 .f32) (main_arg5 : FVec F S1024x1024 .bf16) (main_arg6 : FVec F S1024x1024 .bf16) (main_arg7 : FVec F S1x1024 .f32) (main_arg8 : FVec F S1x1024 .f32) (main_arg9 : FVec F S1024x2816 .bf16) (main_arg10 : FVec F S1024x2816 .bf16) (main_arg11 : FVec F S2816x1024 .bf16) : IVec S8x4096x1024 1 × IVec S8x1024x256 1 × IVec S1x1024 1 × IVec S1024x1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x1024x256 .f32 := (extf .f32 · bitsLt_bf16_f32) main_arg1
  let main_v4 : FVec F S8x1024x256 .f32 := Host.absf main_v3
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S1024x1024 .f32 := (extf .f32 · bitsLt_bf16_f32) main_arg5
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  (main_v2, main_v6, main_v9, main_v13)
-- ==== Kernel.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S1x512x1024 : Shape := ⟨3, ![1, 512, 1024]⟩
abbrev S1x1024x256 : Shape := ⟨3, ![1, 1024, 256]⟩
abbrev S1x256x1024 : Shape := ⟨3, ![1, 256, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S256x2816 : Shape := ⟨2, ![256, 2816]⟩

abbrev nBuf : Space → Nat
  | .hbm => 21
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x1024x256, .bf16⟩
  | .hbm, ⟨2, _⟩ => ⟨S8x256x1024, .bf16⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | "q_scale" => some (((1 / 16) * (Real.log 2)⁻¹ : ℝ) : EReal)
  | _ => none
-- ==== ReferenceIdeal.lean ====
abbrev S8x4096x1024 : Shape := ⟨3, ![8, 4096, 1024]⟩
abbrev S8x1024x256 : Shape := ⟨3, ![8, 1024, 256]⟩
abbrev S8x256x1024 : Shape := ⟨3, ![8, 256, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S8x256x4x256 : Shape := ⟨4, ![8, 256, 4, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096x2816 : Shape := ⟨3, ![8, 4096, 2816]⟩

abbrev nBuf : Space → Nat
  | .hbm => 129
  | .vmem => 0
  | .smem => 0
  | _ => 0

abbrev hbmTy0_0 (i : Nat) : BufTy := match i % 128 with
  | 0 => ⟨S8x4096x1024, .f32⟩
  | 1 => ⟨S8x1024x256, .bf16⟩
  | 2 => ⟨S8x256x1024, .bf16⟩
  | 3 => ⟨S1x1024, .f32⟩
  | 4 => ⟨S1x1024, .f32⟩
  | 5 => ⟨S1024x1024, .bf16⟩
  | 6 => ⟨S1024x1024, .bf16⟩
  | 7 => ⟨S1x1024, .f32⟩
  | 8 => ⟨S1x1024, .f32⟩
  | 9 => ⟨S1024x2816, .bf16⟩
  | 10 => ⟨S1024x2816, .bf16⟩
  | 11 => ⟨S2816x1024, .bf16⟩
  | 12 => ⟨S1024x1024, .f32⟩
  | 13 => ⟨S1024x1024, .f32⟩
  | 14 => ⟨S1024x2816, .f32⟩
  | 15 => ⟨S1024x2816, .f32⟩
  | 16 => ⟨S2816x1024, .f32⟩
  | 17 => ⟨S8x1024x256, .f32⟩
  | 18 => ⟨S8x256x1024, .f32⟩
  | 19 => ⟨S8x256x4x256, .f32⟩
  | 20 => ⟨S8x256x1024, .f32⟩
  | 21 => ⟨S8x256x4x256, .f32⟩
  | 22 => ⟨S1024, .f32⟩
  | 23 => ⟨S8x4096x1024, .f32⟩
  | 24 => ⟨S_, .f32⟩
  | 25 => ⟨S8x4096, .f32⟩
  | 26 => ⟨S8x4096x1, .f32⟩
  | 27 => ⟨S_, .f32⟩
  | 28 => ⟨S8x4096x1, .f32⟩
  | 29 => ⟨S8x4096x1, .f32⟩
  | 30 => ⟨S_, .f32⟩
  | 31 => ⟨S8x4096x1, .f32⟩
  | 32 => ⟨S8x4096x1, .f32⟩
  | 33 => ⟨S8x4096x1, .f32⟩
  | 34 => ⟨S8x4096x1024, .f32⟩
  | 35 => ⟨S8x4096x1024, .f32⟩
  | 36 => ⟨S1x1x1024, .f32⟩
  | 37 => ⟨S8x4096x1024, .f32⟩
  | 38 => ⟨S8x4096x1024, .f32⟩
  | 39 => ⟨S8x4096x1024, .f32⟩
  | 40 => ⟨S8x4096x4x256, .f32⟩
  | 41 => ⟨S8x4x4096x256, .f32⟩
  | 42 => ⟨S_, .f32⟩
  | 43 => ⟨S8x4x4096x256, .f32⟩
  | 44 => ⟨S8x4x4096x256, .f32⟩
  | 45 => ⟨S_, .f32⟩
  | 46 => ⟨S8x4x4096, .f32⟩
  | 47 => ⟨S_, .f32⟩
  | 48 => ⟨S8x4x4096, .f32⟩
  | 49 => ⟨S8x4x4096, .f32⟩
  | 50 => ⟨S8x4x4096x1, .f32⟩
  | 51 => ⟨S8x4x4096x256, .f32⟩
  | 52 => ⟨S8x4x4096x256, .f32⟩
  | 53 => ⟨S8x4x4096x256, .f32⟩
  | 54 => ⟨S_, .f32⟩
  | 55 => ⟨S8x4x4096, .f32⟩
  | 56 => ⟨S8x4x4096x1, .f32⟩
  | 57 => ⟨S8x4x4096x256, .f32⟩
  | 58 => ⟨S8x4x4096x256, .f32⟩
  | 59 => ⟨S8x4x256x4096, .f32⟩
  | 60 => ⟨S8x4096x4x256, .f32⟩
  | 61 => ⟨S8x4096x1024, .f32⟩
  | 62 => ⟨S8x4096x1024, .f32⟩
  | 63 => ⟨S1024, .f32⟩
  | 64 => ⟨S8x4096x1024, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x1024, .f32⟩
  | 76 => ⟨S8x4096x1024, .f32⟩
  | 77 => ⟨S1x1x1024, .f32⟩
  | 78 => ⟨S8x4096x1024, .f32⟩
  | 79 => ⟨S8x4096x1024, .f32⟩
  | 80 => ⟨S8x4096x1024, .f32⟩
  | 81 => ⟨S1024, .f32⟩
  | 82 => ⟨S8x4096x1024, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x1024, .f32⟩
  | 94 => ⟨S8x4096x1024, .f32⟩
  | 95 => ⟨S1x1x1024, .f32⟩
  | 96 => ⟨S8x4096x1024, .f32⟩
  | 97 => ⟨S8x4096x1024, .f32⟩
  | 98 => ⟨S8x4096x2816, .f32⟩
  | 99 => ⟨S8x4096x2816, .f32⟩
  | 100 => ⟨S8x4096x2816, .f32⟩
  | 101 => ⟨S_, .f32⟩
  | 102 => ⟨S8x4096x2816, .f32⟩
  | 103 => ⟨S8x4096x2816, .f32⟩
  | 104 => ⟨S_, .f32⟩
  | 105 => ⟨S8x4096x2816, .f32⟩
  | 106 => ⟨S8x4096x2816, .f32⟩
  | 107 => ⟨S8x4096x2816, .f32⟩
  | 108 => ⟨S8x4096x2816, .f32⟩
  | 109 => ⟨S8x4096x2816, .f32⟩
  | 110 => ⟨S8x4096x1024, .f32⟩
  | 111 => ⟨S1024, .f32⟩
  | 112 => ⟨S8x4096x1024, .f32⟩
  | 113 => ⟨S_, .f32⟩
  | 114 => ⟨S8x4096, .f32⟩
  | 115 => ⟨S8x4096x1, .f32⟩
  | 116 => ⟨S_, .f32⟩
  | 117 => ⟨S8x4096x1, .f32⟩
  | 118 => ⟨S8x4096x1, .f32⟩
  | 119 => ⟨S_, .f32⟩
  | 120 => ⟨S8x4096x1, .f32⟩
  | 121 => ⟨S8x4096x1, .f32⟩
  | 122 => ⟨S8x4096x1, .f32⟩
  | 123 => ⟨S8x4096x1024, .f32⟩
  | 124 => ⟨S8x4096x1024, .f32⟩
  | 125 => ⟨S1x1x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]
-- ==== MemKv.lean ====
abbrev S8x256x1024 : Shape := ⟨3, ![8, 256, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1024x2816 : Shape := ⟨2, ![1024, 2816]⟩
abbrev S1024x1024 : Shape := ⟨2, ![1024, 1024]⟩
abbrev S1024 : Shape := ⟨1, ![1024]⟩
abbrev S8x1024x256 : Shape := ⟨3, ![8, 1024, 256]⟩
abbrev S1x256x1024 : Shape := ⟨3, ![1, 256, 1024]⟩
abbrev S128x2816 : Shape := ⟨2, ![128, 2816]⟩
abbrev S128x1024 : Shape := ⟨2, ![128, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 16
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x1024x2816, .f32⟩
  | .hbm, ⟨5, _⟩ => ⟨S1x1024x1024, .f32⟩
  | .hbm, ⟨6, _⟩ => ⟨S1024x2816, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S8x1024x256, .bf16⟩
  | .hbm, ⟨13, _⟩ => ⟨S8x256x1024, .bf16⟩
  | .hbm, ⟨14, _⟩ => ⟨S1024x2816, .bf16⟩
  | .hbm, ⟨15, _⟩ => ⟨S1024x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S128x2816, .f32⟩
  | .local _ .vmem, ⟨6, _⟩ => ⟨S128x2816, .f32⟩
  | .local _ .vmem, ⟨7, _⟩ => ⟨S128x1024, .f32⟩
  | .local _ .vmem, ⟨8, _⟩ => ⟨S128x1024, .f32⟩
  | .local _ .vmem, ⟨9, _⟩ => ⟨S1x1024x256, .bf16⟩
  | .local _ .vmem, ⟨10, _⟩ => ⟨S1x1024x256, .bf16⟩
  | .local _ .vmem, ⟨11, _⟩ => ⟨S1x256x1024, .bf16⟩
  | .local _ .vmem, ⟨12, _⟩ => ⟨S1x256x1024, .bf16⟩
  | .local _ .vmem, ⟨13, _⟩ => ⟨S128x2816, .bf16⟩
  | .local _ .vmem, ⟨14, _⟩ => ⟨S128x2816, .bf16⟩
  | .local _ .vmem, ⟨15, _⟩ => ⟨S128x1024, .bf16⟩
  | .local _ .vmem, ⟨16, _⟩ => ⟨S128x1024, .bf16⟩
  | .local _ .vmem, ⟨17, _⟩ => ⟨S1024x1024, .bf16⟩
  | .local _ .vmem, ⟨18, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MemKvReferenceIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x1024x256 : Shape := ⟨3, ![8, 1024, 256]⟩
abbrev S1024x2816 : Shape := ⟨2, ![1024, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1x1024x2816, .f32⟩
  | .hbm, ⟨5, _⟩ => ⟨S1x1024x1024, .f32⟩
  | .hbm, ⟨6, _⟩ => ⟨S1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S1024x1024, .f32⟩
  | .hbm, ⟨26, _⟩ => ⟨S8x256x1024, .f32⟩
  | .hbm, ⟨27, _⟩ => ⟨S8x1024x256, .f32⟩
  | .hbm, ⟨28, _⟩ => ⟨S8x1024x256, .bf16⟩
  | .hbm, ⟨29, _⟩ => ⟨S8x256x1024, .bf16⟩
  | .hbm, ⟨30, _⟩ => ⟨S1024x2816, .f32⟩
  | .hbm, ⟨31, _⟩ => ⟨S1024x2816, .bf16⟩
  | .hbm, ⟨32, _⟩ => ⟨S1024x1024, .f32⟩
  | .hbm, ⟨33, _⟩ => ⟨S1024x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Mixer.lean ====
abbrev S1x8 : Shape := ⟨2, ![1, 8]⟩
abbrev S8x4096x1024 : Shape := ⟨3, ![8, 4096, 1024]⟩
abbrev S2x512 : Shape := ⟨2, ![2, 512]⟩
abbrev S1x128 : Shape := ⟨2, ![1, 128]⟩
abbrev S1x1024 : Shape := ⟨2, ![1, 1024]⟩
abbrev S1024x2816 : Shape := ⟨2, ![1024, 2816]⟩
abbrev S1024x1024 : Shape := ⟨2, ![1024, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S2816x1024 : Shape := ⟨2, ![2816, 1024]⟩
abbrev S8 : Shape := ⟨1, ![8]⟩
abbrev S128 : Shape := ⟨1, ![128]⟩
abbrev S1024 : Shape := ⟨1, ![1024]⟩
abbrev S16x1024 : Shape := ⟨2, ![16, 1024]⟩
abbrev S16x2816 : Shape := ⟨2, ![16, 2816]⟩
abbrev S128x1024 : Shape := ⟨2, ![128, 1024]⟩
abbrev S1x512x1024 : Shape := ⟨3, ![1, 512, 1024]⟩
abbrev S512x1024 : Shape := ⟨2, ![512, 1024]⟩
abbrev S512x512 : Shape := ⟨2, ![512, 512]⟩
abbrev S2x640x128 : Shape := ⟨3, ![2, 640, 128]⟩
abbrev S8x512x128 : Shape := ⟨3, ![8, 512, 128]⟩
abbrev S2x128x128 : Shape := ⟨3, ![2, 128, 128]⟩
abbrev S4x128x128 : Shape := ⟨3, ![4, 128, 128]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S128x128 : Shape := ⟨2, ![128, 128]⟩
abbrev S128x256 : Shape := ⟨2, ![128, 256]⟩
abbrev S64x128 : Shape := ⟨2, ![64, 128]⟩
abbrev S512 : Shape := ⟨1, ![512]⟩
abbrev S512x1 : Shape := ⟨2, ![512, 1]⟩
abbrev S128x512 : Shape := ⟨2, ![128, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S1024x512 : Shape := ⟨2, ![1024, 512]⟩
abbrev S128x1 : Shape := ⟨2, ![128, 1]⟩
abbrev S1x512 : Shape := ⟨2, ![1, 512]⟩
abbrev S64x256 : Shape := ⟨2, ![64, 256]⟩
abbrev S256x256 : Shape := ⟨2, ![256, 256]⟩
abbrev S256x512 : Shape := ⟨2, ![256, 512]⟩
abbrev S64x512 : Shape := ⟨2, ![64, 512]⟩
abbrev S1x512x128 : Shape := ⟨3, ![1, 512, 128]⟩
abbrev S64x64 : Shape := ⟨2, ![64, 64]⟩
abbrev S1x128x128 : Shape := ⟨3, ![1, 128, 128]⟩
abbrev S64x192 : Shape := ⟨2, ![64, 192]⟩
abbrev S192x128 : Shape := ⟨2, ![192, 128]⟩
abbrev S64 : Shape := ⟨1, ![64]⟩
abbrev S64x1 : Shape := ⟨2, ![64, 1]⟩
abbrev S1024x256 : Shape := ⟨2, ![1024, 256]⟩

abbrev nBuf : Space → Nat
  | .hbm => 31
  | .vmem => 55
  | .smem => 1
  | _ => 0

abbrev bufTy : (tb : Table) → Fin (tcTables nBuf tb) → BufTy
  | .hbm, ⟨0, _⟩ => ⟨S1x8, .f32⟩
  | .hbm, ⟨1, _⟩ => ⟨S8x4096x1024, .f32⟩
  | .hbm, ⟨2, _⟩ => ⟨S2x512, .f32⟩
  | .hbm, ⟨3, _⟩ => ⟨S1x128, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x1024, .bf16⟩
  | .hbm, ⟨8, _⟩ => ⟨S1x1024x1024, .f32⟩
  | .hbm, ⟨9, _⟩ => ⟨S1x1024x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024x1024, .f32⟩
  | .hbm, ⟨14, _⟩ => ⟨S1024x1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S8, .f32⟩
  | .hbm, ⟨19, _⟩ => ⟨S128, .f32⟩
  | .hbm, ⟨20, _⟩ => ⟨S1x128, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8x4096x1024, .f32⟩
  | .hbm, ⟨26, _⟩ => ⟨S1024x1024, .bf16⟩
  | .hbm, ⟨27, _⟩ => ⟨S1024x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .local _ .vmem, ⟨0, _⟩ => ⟨S2x512, .f32⟩
  | .local _ .vmem, ⟨1, _⟩ => ⟨S1x128, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x1024, .bf16⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x2816, .f32⟩
  | .local _ .vmem, ⟨11, _⟩ => ⟨S16x2816, .f32⟩
  | .local _ .vmem, ⟨12, _⟩ => ⟨S16x2816, .f32⟩
  | .local _ .vmem, ⟨13, _⟩ => ⟨S16x2816, .f32⟩
  | .local _ .vmem, ⟨14, _⟩ => ⟨S128x1024, .f32⟩
  | .local _ .vmem, ⟨15, _⟩ => ⟨S128x1024, .f32⟩
  | .local _ .vmem, ⟨16, _⟩ => ⟨S1x512x1024, .f32⟩
  | .local _ .vmem, ⟨17, _⟩ => ⟨S1x512x1024, .f32⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x2816, .bf16⟩
  | .local _ .vmem, ⟨23, _⟩ => ⟨S16x2816, .bf16⟩
  | .local _ .vmem, ⟨24, _⟩ => ⟨S16x2816, .bf16⟩
  | .local _ .vmem, ⟨25, _⟩ => ⟨S16x2816, .bf16⟩
  | .local _ .vmem, ⟨26, _⟩ => ⟨S128x1024, .bf16⟩
  | .local _ .vmem, ⟨27, _⟩ => ⟨S128x1024, .bf16⟩
  | .local _ .vmem, ⟨28, _⟩ => ⟨S512x1024, .f32⟩
  | .local _ .vmem, ⟨29, _⟩ => ⟨S512x512, .bf16⟩
  | .local _ .vmem, ⟨30, _⟩ => ⟨S2x640x128, .bf16⟩
  | .local _ .vmem, ⟨31, _⟩ => ⟨S2x640x128, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S8x512x128, .f32⟩
  | .local _ .vmem, ⟨37, _⟩ => ⟨S512x512, .bf16⟩
  | .local _ .vmem, ⟨38, _⟩ => ⟨S512x512, .f32⟩
  | .local _ .vmem, ⟨39, _⟩ => ⟨S512x1024, .f32⟩
  | .local _ .vmem, ⟨40, _⟩ => ⟨S512x512, .bf16⟩
  | .local _ .vmem, ⟨41, _⟩ => ⟨S2x640x128, .bf16⟩
  | .local _ .vmem, ⟨42, _⟩ => ⟨S2x640x128, .bf16⟩
  | .local _ .vmem, ⟨43, _⟩ => ⟨S512x512, .bf16⟩
  | .local _ .vmem, ⟨44, _⟩ => ⟨S512x512, .bf16⟩
  | .local _ .vmem, ⟨45, _⟩ => ⟨S512x512, .bf16⟩
  | .local _ .vmem, ⟨46, _⟩ => ⟨S512x512, .bf16⟩
  | .local _ .vmem, ⟨47, _⟩ => ⟨S8x512x128, .f32⟩
  | .local _ .vmem, ⟨48, _⟩ => ⟨S512x512, .bf16⟩
  | .local _ .vmem, ⟨49, _⟩ => ⟨S512x512, .f32⟩
  | .local _ .vmem, ⟨50, _⟩ => ⟨S2x128x128, .bf16⟩
  | .local _ .vmem, ⟨51, _⟩ => ⟨S2x128x128, .bf16⟩
  | .local _ .vmem, ⟨52, _⟩ => ⟨S4x128x128, .f32⟩
  | .local _ .vmem, ⟨53, _⟩ => ⟨S512x1024, .bf16⟩
  | .local _ .vmem, ⟨54, _⟩ => ⟨S3x512x1024, .f32⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_scratch15 : Ref sig .tc := ⟨.vmem, 43, rfl⟩
abbrev cc0_scratch16 : Ref sig .tc := ⟨.vmem, 44, rfl⟩
abbrev cc0_scratch17 : Ref sig .tc := ⟨.vmem, 45, rfl⟩
abbrev cc0_scratch18 : Ref sig .tc := ⟨.vmem, 46, rfl⟩
abbrev cc0_scratch19 : Ref sig .tc := ⟨.vmem, 47, rfl⟩
abbrev cc0_scratch20 : Ref sig .tc := ⟨.vmem, 48, rfl⟩
abbrev cc0_scratch21 : Ref sig .tc := ⟨.vmem, 49, rfl⟩
abbrev cc0_scratch22 : Ref sig .tc := ⟨.vmem, 50, rfl⟩
abbrev cc0_scratch23 : Ref sig .tc := ⟨.vmem, 51, rfl⟩
abbrev cc0_scratch24 : Ref sig .tc := ⟨.vmem, 52, rfl⟩
abbrev cc0_scratch25 : Ref sig .tc := ⟨.vmem, 53, rfl⟩
abbrev cc0_scratch26 : Ref sig .tc := ⟨.vmem, 54, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_33 : BitVec 32 := 0#32
  let c8_i32_34 : BitVec 32 := 8#32
  let v48 : BitVec 32 := Scalar.remsi c0_i32_33 c8_i32_34
  let c512_i32 : BitVec 32 := 512#32
  let v49 : BitVec 32 := Scalar.muli v48 c512_i32
  v49
def k0_off1 (c0_i32_31 : BitVec 32) : Fin 1 → Nat :=
  let c3_i32_32 : BitVec 32 := 3#32
  let v47 : BitVec 32 := Scalar.remsi c0_i32_31 c3_i32_32
  ![v47.toNat]
def k0_off2 (c0_i32_31 : BitVec 32) : Fin 3 → Nat :=
  let c3_i32_32 : BitVec 32 := 3#32
  let v47 : BitVec 32 := Scalar.remsi c0_i32_31 c3_i32_32
  let c0_i32_43 : BitVec 32 := 0#32
  let c0_i32_44 : BitVec 32 := 0#32
  ![v47.toNat, 0, 0]
def k0_off3 (c0_i32_35 : BitVec 32) (c0_i32_33 : BitVec 32) : Fin 3 → Nat :=
  let c0_i32_37 : BitVec 32 := 0#32
  let v52 : BitVec 1 := Scalar.cmpi .sgt c0_i32_35 c0_i32_37
  let v53 : BitVec 32 := Scalar.extui v52
  let c0_i32_38 : BitVec 32 := 0#32
  let v54 : BitVec 1 := Scalar.cmpi .slt c0_i32_35 c0_i32_38
  let v55 : BitVec 32 := Scalar.extui v54
  let v56 : BitVec 32 := Scalar.subi v53 v55
  let c8_i32_36 : BitVec 32 := 8#32
  let c0_i32_39 : BitVec 32 := 0#32
  let v57 : BitVec 1 := Scalar.cmpi .sgt c8_i32_36 c0_i32_39
  let v58 : BitVec 32 := Scalar.extui v57
  let c0_i32_40 : BitVec 32 := 0#32
  let v59 : BitVec 1 := Scalar.cmpi .slt c8_i32_36 c0_i32_40
  let v60 : BitVec 32 := Scalar.extui v59
  let v61 : BitVec 32 := Scalar.subi v58 v60
  let v62 : BitVec 1 := Scalar.cmpi .ne v56 v61
  let v63 : BitVec 32 := Scalar.remsi c0_i32_35 c8_i32_36
  let c0_i32_41 : BitVec 32 := 0#32
  let v64 : BitVec 1 := Scalar.cmpi .ne v63 c0_i32_41
  let v65 : BitVec 1 := Scalar.andi v62 v64
  let v51 : BitVec 32 := Scalar.divsi c0_i32_35 c8_i32_36
  let c1_i32_42 : BitVec 32 := 1#32
  let v66 : BitVec 32 := Scalar.subi v51 c1_i32_42
  let v67 : BitVec 32 := Scalar.select v65 v66 v51
  let c8_i32_34 : BitVec 32 := 8#32
  let v48 : BitVec 32 := Scalar.remsi c0_i32_33 c8_i32_34
  let c512_i32 : BitVec 32 := 512#32
  let v49 : BitVec 32 := Scalar.muli v48 c512_i32
  let v50 : BitVec 32 := v49
  let c0_i32_45 : BitVec 32 := 0#32
  ![v67.toNat, v50.toNat, 0]
def k0_off3_at (r : Fin 2) : BitVec 32 × BitVec 32 :=
  if r.val < 1 then
    (0#32, 0#32)
  else
    (1#32, 1#32)
def k0_mult2 : BitVec 32 :=
  let c1_i32_48 : BitVec 32 := 1#32
  let c8_i32_49 : BitVec 32 := 8#32
  let v75 : BitVec 32 := Scalar.remsi c1_i32_48 c8_i32_49
  let c512_i32_50 : BitVec 32 := 512#32
  let v76 : BitVec 32 := Scalar.muli v75 c512_i32_50
  v76
def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_mult3 (i : grid0.Coords) : BitVec 32 :=
  let arg0 : BitVec 32 := BitVec.ofNat 32 (i 0).val
  let c8_i32_32 : BitVec 32 := 8#32
  let v48 : BitVec 32 := Scalar.remsi arg0 c8_i32_32
  let c512_i32 : BitVec 32 := 512#32
  let v49 : BitVec 32 := Scalar.muli v48 c512_i32
  v49
def k0_off4 (i : grid0.Coords) : Fin 1 → Nat :=
  let arg0 : BitVec 32 := BitVec.ofNat 32 (i 0).val
  let c3_i32_31 : BitVec 32 := 3#32
  let v47 : BitVec 32 := Scalar.remsi arg0 c3_i32_31
  ![v47.toNat]
def k0_off5 (i : grid0.Coords) : Fin 3 → Nat :=
  let arg0 : BitVec 32 := BitVec.ofNat 32 (i 0).val
  let c3_i32_31 : BitVec 32 := 3#32
  let v47 : BitVec 32 := Scalar.remsi arg0 c3_i32_31
  let c0_i32_40 : BitVec 32 := 0#32
  let c0_i32_41 : BitVec 32 := 0#32
  ![v47.toNat, 0, 0]
def k0_off6 (i : grid0.Coords) : Fin 3 → Nat :=
  let arg0 : BitVec 32 := BitVec.ofNat 32 (i 0).val
  let c0_i32_34 : BitVec 32 := 0#32
  let v52 : BitVec 1 := Scalar.cmpi .sgt arg0 c0_i32_34
  let v53 : BitVec 32 := Scalar.extui v52
  let c0_i32_35 : BitVec 32 := 0#32
  let v54 : BitVec 1 := Scalar.cmpi .slt arg0 c0_i32_35
  let v55 : BitVec 32 := Scalar.extui v54
  let v56 : BitVec 32 := Scalar.subi v53 v55
  let c8_i32_33 : BitVec 32 := 8#32
  let c0_i32_36 : BitVec 32 := 0#32
  let v57 : BitVec 1 := Scalar.cmpi .sgt c8_i32_33 c0_i32_36
  let v58 : BitVec 32 := Scalar.extui v57
  let c0_i32_37 : BitVec 32 := 0#32
  let v59 : BitVec 1 := Scalar.cmpi .slt c8_i32_33 c0_i32_37
  let v60 : BitVec 32 := Scalar.extui v59
  let v61 : BitVec 32 := Scalar.subi v58 v60
  let v62 : BitVec 1 := Scalar.cmpi .ne v56 v61
  let v63 : BitVec 32 := Scalar.remsi arg0 c8_i32_33
  let c0_i32_38 : BitVec 32 := 0#32
  let v64 : BitVec 1 := Scalar.cmpi .ne v63 c0_i32_38
  let v65 : BitVec 1 := Scalar.andi v62 v64
  let v51 : BitVec 32 := Scalar.divsi arg0 c8_i32_33
  let c1_i32_39 : BitVec 32 := 1#32
  let v66 : BitVec 32 := Scalar.subi v51 c1_i32_39
  let v67 : BitVec 32 := Scalar.select v65 v66 v51
  let c8_i32_32 : BitVec 32 := 8#32
  let v48 : BitVec 32 := Scalar.remsi arg0 c8_i32_32
  let c512_i32 : BitVec 32 := 512#32
  let v49 : BitVec 32 := Scalar.muli v48 c512_i32
  let v50 : BitVec 32 := v49
  let c0_i32_42 : BitVec 32 := 0#32
  ![v67.toNat, v50.toNat, 0]
def k0_cond5 (i : grid0.Coords) : BitVec 1 :=
  let arg0 : BitVec 32 := BitVec.ofNat 32 (i 0).val
  let c2_i32 : BitVec 32 := 2#32
  let v34 : BitVec 32 := Scalar.remsi arg0 c2_i32
  let c0_i32_22 : BitVec 32 := 0#32
  let v35 : BitVec 1 := Scalar.cmpi .eq v34 c0_i32_22
  let v36 : BitVec 32 := Scalar.extui v35
  let c0_i32_23 : BitVec 32 := 0#32
  let v37 : BitVec 1 := Scalar.cmpi .ne v36 c0_i32_23
  v37

def k0_off7 (i : grid0.Coords) : Fin 3 → Nat :=
  let arg0 : BitVec 32 := BitVec.ofNat 32 (i 0).val
  let c63_i32 : BitVec 32 := 63#32
  let v6 : BitVec 32 := Scalar.minsi arg0 c63_i32
  let c3_i32 : BitVec 32 := 3#32
  let v7 : BitVec 32 := Scalar.remsi v6 c3_i32
  let v129 : Index := Scalar.indexCast v7
  let c0_62 : Index := 0#32
  let c0_63 : Index := 0#32
  ![v129.toNat, 0, 0]
def k0_cond6 (i : grid0.Coords) : BitVec 1 :=
  let arg0 : BitVec 32 := BitVec.ofNat 32 (i 0).val
  let c2_i32_24 : BitVec 32 := 2#32
  let v38 : BitVec 32 := Scalar.remsi arg0 c2_i32_24
  let c1_i32_25 : BitVec 32 := 1#32
  let v39 : BitVec 1 := Scalar.cmpi .eq v38 c1_i32_25
  let v40 : BitVec 32 := Scalar.extui v39
  let c0_i32_26 : BitVec 32 := 0#32
  let v41 : BitVec 1 := Scalar.cmpi .ne v40 c0_i32_26
  v41

def k0_off8 (i : grid0.Coords) : Fin 3 → Nat :=
  let arg0 : BitVec 32 := BitVec.ofNat 32 (i 0).val
  let c63_i32 : BitVec 32 := 63#32
  let v6 : BitVec 32 := Scalar.minsi arg0 c63_i32
  let c3_i32 : BitVec 32 := 3#32
  let v7 : BitVec 32 := Scalar.remsi v6 c3_i32
  let v129 : Index := Scalar.indexCast v7
  let c0_62 : Index := 0#32
  let c0_63 : Index := 0#32
  ![v129.toNat, 0, 0]
def k0_cond7 (i : grid0.Coords) : BitVec 1 :=
  let arg0 : BitVec 32 := BitVec.ofNat 32 (i 0).val
  let c3_i32_27 : BitVec 32 := 3#32
  let v42 : BitVec 32 := Scalar.addi arg0 c3_i32_27
  let c1_i32_28 : BitVec 32 := 1#32
  let v43 : BitVec 32 := Scalar.subi v42 c1_i32_28
  let c64_i32_29 : BitVec 32 := 64#32
  let v44 : BitVec 1 := Scalar.cmpi .slt v43 c64_i32_29
  let v45 : BitVec 32 := Scalar.extui v44
  let c0_i32_30 : BitVec 32 := 0#32
  let v46 : BitVec 1 := Scalar.cmpi .ne v45 c0_i32_30
  v46

def k0_mult4 (i : grid0.Coords) : BitVec 32 :=
  let arg0 : BitVec 32 := BitVec.ofNat 32 (i 0).val
  let c3_i32_31 : BitVec 32 := 3#32
  let v47 : BitVec 32 := Scalar.addi arg0 c3_i32_31
  let c1_i32_32 : BitVec 32 := 1#32
  let v48 : BitVec 32 := Scalar.subi v47 c1_i32_32
  let c8_i32_34 : BitVec 32 := 8#32
  let v50 : BitVec 32 := Scalar.remsi v48 c8_i32_34
  let c512_i32 : BitVec 32 := 512#32
  let v51 : BitVec 32 := Scalar.muli v50 c512_i32
  v51
def k0_off9 (i : grid0.Coords) : Fin 1 → Nat :=
  let arg0 : BitVec 32 := BitVec.ofNat 32 (i 0).val
  let c3_i32_31 : BitVec 32 := 3#32
  let v47 : BitVec 32 := Scalar.addi arg0 c3_i32_31
  let c1_i32_32 : BitVec 32 := 1#32
  let v48 : BitVec 32 := Scalar.subi v47 c1_i32_32
  let c3_i32_33 : BitVec 32 := 3#32
  let v49 : BitVec 32 := Scalar.remsi v48 c3_i32_33
  ![v49.toNat]
def k0_off10 (i : grid0.Coords) : Fin 3 → Nat :=
  let arg0 : BitVec 32 := BitVec.ofNat 32 (i 0).val
  let c3_i32_31 : BitVec 32 := 3#32
  let v47 : BitVec 32 := Scalar.addi arg0 c3_i32_31
  let c1_i32_32 : BitVec 32 := 1#32
  let v48 : BitVec 32 := Scalar.subi v47 c1_i32_32
  let c3_i32_33 : BitVec 32 := 3#32
  let v49 : BitVec 32 := Scalar.remsi v48 c3_i32_33
  let c0_i32_42 : BitVec 32 := 0#32
  let c0_i32_43 : BitVec 32 := 0#32
  ![v49.toNat, 0, 0]
def k0_off11 (i : grid0.Coords) : Fin 3 → Nat :=
  let arg0 : BitVec 32 := BitVec.ofNat 32 (i 0).val
  let c3_i32_31 : BitVec 32 := 3#32
  let v47 : BitVec 32 := Scalar.addi arg0 c3_i32_31
  let c1_i32_32 : BitVec 32 := 1#32
  let v48 : BitVec 32 := Scalar.subi v47 c1_i32_32
  let c0_i32_36 : BitVec 32 := 0#32
  let v54 : BitVec 1 := Scalar.cmpi .sgt v48 c0_i32_36
  let v55 : BitVec 32 := Scalar.extui v54
  let c0_i32_37 : BitVec 32 := 0#32
  let v56 : BitVec 1 := Scalar.cmpi .slt v48 c0_i32_37
  let v57 : BitVec 32 := Scalar.extui v56
  let v58 : BitVec 32 := Scalar.subi v55 v57
  let c8_i32_35 : BitVec 32 := 8#32
  let c0_i32_38 : BitVec 32 := 0#32
  let v59 : BitVec 1 := Scalar.cmpi .sgt c8_i32_35 c0_i32_38
  let v60 : BitVec 32 := Scalar.extui v59
  let c0_i32_39 : BitVec 32 := 0#32
  let v61 : BitVec 1 := Scalar.cmpi .slt c8_i32_35 c0_i32_39
  let v62 : BitVec 32 := Scalar.extui v61
  let v63 : BitVec 32 := Scalar.subi v60 v62
  let v64 : BitVec 1 := Scalar.cmpi .ne v58 v63
  let v65 : BitVec 32 := Scalar.remsi v48 c8_i32_35
  let c0_i32_40 : BitVec 32 := 0#32
  let v66 : BitVec 1 := Scalar.cmpi .ne v65 c0_i32_40
  let v67 : BitVec 1 := Scalar.andi v64 v66
  let v53 : BitVec 32 := Scalar.divsi v48 c8_i32_35
  let c1_i32_41 : BitVec 32 := 1#32
  let v68 : BitVec 32 := Scalar.subi v53 c1_i32_41
  let v69 : BitVec 32 := Scalar.select v67 v68 v53
  let c8_i32_34 : BitVec 32 := 8#32
  let v50 : BitVec 32 := Scalar.remsi v48 c8_i32_34
  let c512_i32 : BitVec 32 := 512#32
  let v51 : BitVec 32 := Scalar.muli v50 c512_i32
  let v52 : BitVec 32 := v51
  let c0_i32_44 : BitVec 32 := 0#32
  ![v69.toNat, v52.toNat, 0]
def k0_cond3 (i : grid0.Coords) : BitVec 1 :=
  let arg0 : BitVec 32 := BitVec.ofNat 32 (i 0).val
  let c22_i32 : BitVec 32 := 22#32
  let v24 : BitVec 1 := Scalar.cmpi .slt arg0 c22_i32
  let v25 : BitVec 32 := Scalar.extui v24
  let c0_i32_17 : BitVec 32 := 0#32
  let v26 : BitVec 1 := Scalar.cmpi .ne v25 c0_i32_17
  v26

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== NextWeightsReferenceIdeal.lean ====
abbrev S1x8 : Shape := ⟨2, ![1, 8]⟩
abbrev S8x4096x1024 : Shape := ⟨3, ![8, 4096, 1024]⟩
abbrev S2x512 : Shape := ⟨2, ![2, 512]⟩
abbrev S1x128 : Shape := ⟨2, ![1, 128]⟩
abbrev S1x1024 : Shape := ⟨2, ![1, 1024]⟩
abbrev S1024x2816 : Shape := ⟨2, ![1024, 2816]⟩
abbrev S1024x1024 : Shape := ⟨2, ![1024, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S2816x1024 : Shape := ⟨2, ![2816, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S8x4096x1024, .f32⟩
  | .hbm, ⟨2, _⟩ => ⟨S2x512, .f32⟩
  | .hbm, ⟨3, _⟩ => ⟨S1x128, .f32⟩
  | .hbm, ⟨4, _⟩ => ⟨S1x1024, .f32⟩
  | .hbm, ⟨5, _⟩ => ⟨S1x1024, .f32⟩
  | .hbm, ⟨6, _⟩ => ⟨S1024x2816, .bf16⟩
  | .hbm, ⟨7, _⟩ => ⟨S1024x1024, .bf16⟩
  | .hbm, ⟨8, _⟩ => ⟨S1x1024x1024, .f32⟩
  | .hbm, ⟨9, _⟩ => ⟨S1x1024x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .f32⟩
  | .hbm, ⟨22, _⟩ => ⟨S2816x1024, .bf16⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Xattn.Row.lean ====
module
public import Idealize.ShloMosaic.Lib.Pointwise
@[expose] public section
namespace Cert.Xattn
open Idealize.ShloMosaic

/-! The layer's step on one row, as plain functions of the row, the memory and the weights.  The
kernel and the reference share the norm, the projections and the feed-forward skeleton; they differ
in how a head's softmax and the gate's sigmoid are written. -/

/-- The reciprocal root mean square of a row. -/
noncomputable def rs (x : Fin 1024 → EReal) : EReal :=
  Ideal.rsqrt (Ideal.div (∑ k, x k * x k) (Ideal.ofBits .f32 1149239296#32) + Ideal.ofBits .f32 897988541#32)

/-- The root-mean-square norm of a row with a gain. -/
noncomputable def nrm (x g : Fin 1024 → EReal) (k : Fin 1024) : EReal := x k * rs x * g k

/-- A row times a matrix. -/
noncomputable def mm {a b : Nat} (u : Fin a → EReal) (w : Fin a → Fin b → EReal) (c : Fin b) : EReal :=
  ∑ k, u k * w k c

/-- Column `d` of head `h`. -/
def col (h : Fin 4) (d : Fin 256) : Fin 1024 := ⟨h.val * 256 + d.val, by omega⟩

/-- The head a column belongs to. -/
def headOf (k : Fin 1024) : Fin 4 := ⟨k.val / 256, by omega⟩

/-- The largest of a head's scores. -/
noncomputable def top (s : Fin 256 → EReal) : EReal :=
  Finset.fold max (Ideal.ofBits .f32 4286578688#32) s Finset.univ

/-- A head's scores of a query row against the memory. -/
noncomputable def score (q : Fin 1024 → EReal) (kt : Fin 1024 → Fin 256 → EReal) (h : Fin 4) (m : Fin 256) : EReal :=
  ∑ d, q (col h d) * kt (col h d) m

/-- The kernel's attention: powers of two of the shifted scores, normalised after the value product. -/
noncomputable def attK (s v : Fin 256 → EReal) : EReal :=
  (∑ m, FloatOps.exp2 (F := Ideal) (φ := .f32) (s m - top s) * v m) *
    Ideal.div 1 (∑ m, FloatOps.exp2 (F := Ideal) (φ := .f32) (s m - top s))

/-- The residual step: a row plus the norm of an update. -/
noncomputable def upd (x y g : Fin 1024 → EReal) (k : Fin 1024) : EReal := x k + nrm y g k

/-- The kernel's gate value, the sigmoid written with a power of two and the constant `e` = −log₂ e. -/
noncomputable def gateK (e a b : EReal) : EReal :=
  a * Ideal.div 1 (1 + FloatOps.exp2 (F := Ideal) (φ := .f32) (a * e)) * b

end Cert.Xattn
end
-- ==== Proof.Xattn.Pay.lean ====
module
public import proofs.«01_k».proof.Proof.Gen.KernelIdeal.Value
public import proofs.«01_k».proof.Proof.Xattn.Row
@[expose] public section
set_option maxRecDepth 16384
namespace Cert.Xattn
open Cert.KernelIdeal Cert.KernelIdeal.Gen Idealize.ShloMosaic Idealize.ShloMosaic.TcCoe

/-! What each value the kernel computes holds at an index, in the row functions of `Row`. -/

/-- The row `r` of a block of the residual stream. -/
abbrev hrow (v : Vec Ideal S1x256x1024 .f32) (r : Fin 256) (k : Fin 1024) : EReal := v (ix3 0 r k)
/-- A gain as a plain row. -/
abbrev gain (v : Vec Ideal S1x1024 .f32) (k : Fin 1024) : EReal := v (ix2 0 k)

/-- The kernel's query row: the normed row times the weight, times the named scale. -/
noncomputable def qK (x g : Fin 1024 → EReal) (w : Fin 1024 → Fin 1024 → EReal) (c : Fin 1024) : EReal :=
  mm (nrm x g) w c * Named.named (F := Ideal) (φ := .f32) κ "q_scale" 1035512379#32

/-- The constant −log₂ e of the gate. -/
noncomputable abbrev nl2e : EReal := Named.named (F := Ideal) (φ := .f32) κ "neg_log2e" 3216550459#32

theorem query_at (v0 : Vec Ideal S1x256x1024 .f32) (v12 : Vec Ideal S1x1024 .f32) (v17 : Vec Ideal S1024x1024 .bf16) (r : Fin 256) (c : Fin 1024) :
    k0_pay2 v0 v12 v17 (ix2 r c) = qK (hrow v0 r) (gain v12) (fun k c => v17 (ix2 k c)) c := by
  pointwise [k0_pay2]
  rfl
theorem query_eq (v0 : Vec Ideal S1x256x1024 .f32) (v12 : Vec Ideal S1x1024 .f32) (v17 : Vec Ideal S1024x1024 .bf16) :
    k0_pay7 v0 v12 v17 = k0_pay2 v0 v12 v17 := rfl

section Scores
variable (v0 : Vec Ideal S1x256x1024 .f32) (v12 : Vec Ideal S1x1024 .f32) (v17 : Vec Ideal S1024x1024 .bf16)
  (q : FVec Ideal S256x1024 .bf16) (t : Vec Ideal S1x256x256 .bf16) (r m : Fin 256)

theorem col_zero (d : Fin 256) : col 0 d = ⟨d.val, by omega⟩ := Fin.ext (by simp [col])
theorem col_one (d : Fin 256) : col 1 d = ⟨256 + d.val, by omega⟩ := rfl
theorem col_two (d : Fin 256) : col 2 d = ⟨512 + d.val, by omega⟩ := rfl
theorem col_three (d : Fin 256) : col 3 d = ⟨768 + d.val, by omega⟩ := rfl

theorem score0_at : k0_pay18 q t (ix2 r m) = ∑ d, q (ix2 r (col 0 d)) * t (ix3 0 d m) := by
  simp only [col_zero]
  pointwise [k0_pay18]
theorem score1_at : k0_pay19 q t (ix2 r m) = ∑ d, q (ix2 r (col 1 d)) * t (ix3 0 d m) := by
  simp only [col_one]
  pointwise [k0_pay19]
theorem score2_at : k0_pay22 (k0_pay20 q) (k0_pay21 t) (ix2 r m) = ∑ d, q (ix2 r (col 2 d)) * t (ix3 0 d m) := by
  simp only [col_two]
  pointwise [k0_pay22, k0_pay20, k0_pay21]
theorem score3_at : k0_pay23 q t (ix2 r m) = ∑ d, q (ix2 r (col 3 d)) * t (ix3 0 d m) := by
  simp only [col_three]
  pointwise [k0_pay23]
theorem score0_eq : k0_pay3 v0 v12 v17 t = k0_pay18 (k0_pay2 v0 v12 v17) t := rfl
theorem score1_eq : k0_pay4 v0 v12 v17 t = k0_pay19 (k0_pay2 v0 v12 v17) t := rfl
theorem score2_eq : k0_pay5 v0 v12 v17 t = k0_pay22 (k0_pay20 (k0_pay2 v0 v12 v17)) (k0_pay21 t) := rfl
theorem score3_eq : k0_pay6 q t = k0_pay23 q t := rfl
end Scores

section Heads
variable (s : FVec Ideal S256x256 .f32) (v : Vec Ideal S1x256x256 .bf16) (r e : Fin 256)

theorem head_at : k0_pay12 s v (ix2 r e) = attK (fun m => s (ix2 r m)) (fun m => v (ix3 0 m e)) := by
  pointwise [k0_pay12]
  rfl
theorem head0_eq : k0_pay11 (k0_pay9 s) (k0_pay10 s v) (FloatOps.ofBits .f32 0x3F800000#32) = k0_pay12 s v := rfl
theorem head2_eq : k0_pay16 (k0_pay14 s v) (k0_pay15 s) = k0_pay12 s v := rfl
theorem head3_eq : k0_pay17 s v = k0_pay12 s v := rfl
theorem head4_eq : k0_pay24 s v = k0_pay12 s v := rfl
theorem head5_eq : k0_pay28 (k0_pay26 s v) (k0_pay27 s) = k0_pay12 s v := rfl
theorem head6_eq : k0_pay29 s v = k0_pay12 s v := rfl
theorem head7_eq : k0_pay31 (k0_pay30 s v) = k0_pay12 s v := rfl
end Heads

section Ffn
variable (o : FVec Ideal S256x1024 .bf16) (wo : Vec Ideal S1024x1024 .bf16) (h : Vec Ideal S1x256x1024 .f32)
  (g g7 g8 : Vec Ideal S1x1024 .f32) (wg wu : Vec Ideal S1024x2816 .bf16) (wd : Vec Ideal S2816x1024 .bf16) (r : Fin 256)

/-- The residual stream after the attention, from a row of head outputs. -/
noncomputable def afterAtt (x o g : Fin 1024 → EReal) (wo : Fin 1024 → Fin 1024 → EReal) : Fin 1024 → EReal :=
  upd x (mm o wo) g

theorem after0_at (c : Fin 1024) : k0_pay32 o wo h g (ix2 r c) =
    afterAtt (hrow h r) (fun k => o (ix2 r k)) (gain g) (fun k c => wo (ix2 k c)) c := by
  pointwise [k0_pay32]
  rfl
theorem after1_eq : k0_pay37 (k0_pay33 o wo) h g = k0_pay32 o wo h g := rfl

/-- The kernel's feed-forward step on a row of the residual stream. -/
noncomputable def ffnK (x g7 g8 : Fin 1024 → EReal) (wg wu : Fin 1024 → Fin 2816 → EReal) (wd : Fin 2816 → Fin 1024 → EReal) :
    Fin 1024 → EReal :=
  upd x (mm (fun j => gateK nl2e (mm (nrm x g7) wg j) (mm (nrm x g7) wu j)) wd) g8

theorem normed0_at (c : Fin 2816) (w : Vec Ideal S1024x2816 .bf16) : k0_pay36 (k0_pay34 o wo h g) g7 w (ix2 r c) =
    mm (nrm (fun k => k0_pay32 o wo h g (ix2 r k)) (gain g7)) (fun k c => w (ix2 k c)) c := by
  pointwise [k0_pay36, k0_pay35, k0_pay34]
  rfl
theorem gate0_eq (w : Vec Ideal S1024x2816 .bf16) : k0_pay38 (k0_pay34 o wo h g) g7 w = k0_pay36 (k0_pay34 o wo h g) g7 w := rfl

/-- The first half's stored block: the step on every row. -/
noncomputable def half : FVec Ideal S1x256x1024 .f32 :=
  k0_pay44 (k0_pay32 o wo h g) (k0_pay36 (k0_pay34 o wo h g) g7 wu) (k0_pay38 (k0_pay34 o wo h g) g7 wg) wd g8

theorem half_at (c : Fin 1024) : half o wo h g g7 g8 wg wu wd (ix3 0 r c) =
    ffnK (afterAtt (hrow h r) (fun k => o (ix2 r k)) (gain g) (fun k c => wo (ix2 k c)))
      (gain g7) (gain g8) (fun k c => wg (ix2 k c)) (fun k c => wu (ix2 k c)) (fun k c => wd (ix2 k c)) c := by
  unfold half
  pointwise [k0_pay44]
  simp only [gate0_eq, normed0_at, after0_at]
  rfl

theorem half_eq_first : k0_pay44 (k0_pay32 o wo h g) (k0_pay36 (k0_pay34 o wo h g) g7 wu) (k0_pay38 (k0_pay34 o wo h g) g7 wg) wd g8 =
    half o wo h g g7 g8 wg wu wd := rfl

/-- The second half computes the same block from its own rows. -/
theorem half_eq : k0_pay1 (k0_pay37 (k0_pay33 o wo) h g) (k0_pay42 (k0_pay39 (k0_pay33 o wo) h g) (k0_pay40 g7) wu)
      (k0_pay43 (k0_pay39 (k0_pay33 o wo) h g) (k0_pay40 g7) wg) (k0_pay45 (k0_pay39 (k0_pay33 o wo) h g) (k0_pay40 g7) wg) wd g8 =
    half o wo h g g7 g8 wg wu wd := rfl
end Ffn
end Cert.Xattn
end
-- ==== Proof.Xattn.Block.lean ====
module
public import proofs.«01_k».proof.Proof.Xattn.Pay
public import Idealize.ShloMosaic.Lib.Pipeline.ReadBack
public import Idealize.ShloMosaic.Lib.Pipeline.ValueKit.Tiles
@[expose] public section
set_option maxRecDepth 16384
namespace Cert.Xattn
open Cert.KernelIdeal Cert.KernelIdeal.Gen Idealize.ShloMosaic Idealize.ShloMosaic.TcCoe

/-! One grid point: the scratch holds every row's head outputs, and the output block is the layer's
step on every row of the point's tile. -/

/-- Stores that are blocks of `G` leave `G` where they cover. -/
theorem canon_of_pieces {s : Shape} {e : EltTy} (G : s.Idx → Elt Ideal e) (L : List (View.Piece (Elt Ideal) s e)) (h : View.PiecesOf G L)
    (y : s.Idx) (hc : ∃ p ∈ L, y ∈ p.1.set) : View.canon L y = G y := by
  have := View.canon_append_of_piecesOf G [] L h y hc
  rwa [List.append_nil] at this

section
variable (x0 : Vec Ideal S1x512x1024 .f32) (x1 : Vec Ideal S1x1024x256 .bf16) (x2 : Vec Ideal S1x256x1024 .bf16)
  (x3 x4 : Vec Ideal S1x1024 .f32) (x5 x6 : Vec Ideal S1024x1024 .bf16) (x7 x8 : Vec Ideal S1x1024 .f32)
  (x9 x10 : Vec Ideal S1024x2816 .bf16) (x11 : Vec Ideal S2816x1024 .bf16)

/-- Row `R` of the tile's query. -/
noncomputable abbrev tileQ (R : Fin 512) : Fin 1024 → EReal :=
  qK (fun k => x0 (ix3 0 R k)) (gain x3) (fun k c => x5 (ix2 k c))

/-- Row `R`'s head outputs, all heads side by side. -/
noncomputable def tileO (R : Fin 512) (k : Fin 1024) : EReal :=
  attK (score (tileQ x0 x3 x5 R) (fun k m => x1 (ix3 0 k m)) (headOf k)) (fun m => x2 (ix3 0 m k))

/-- Row `R` of the output tile. -/
noncomputable def tileY (R : Fin 512) : Fin 1024 → EReal :=
  ffnK (afterAtt (fun k => x0 (ix3 0 R k)) (tileO x0 x1 x2 x3 x5 R) (gain x4) (fun k c => x6 (ix2 k c)))
    (gain x7) (gain x8) (fun k c => x9 (ix2 k c)) (fun k c => x10 (ix2 k c)) (fun k c => x11 (ix2 k c))

theorem headOf_col (h : Fin 4) (e : Fin 256) : headOf (col h e) = h :=
  Fin.ext (by simp only [headOf, col]; omega)

/-- One head's stored block, from what its operands read. -/
theorem piece_at {R : Fin 512} {h : Fin 4} {q : FVec Ideal S256x1024 .bf16} {s : FVec Ideal S256x256 .f32}
    {t v : Vec Ideal S1x256x256 .bf16} {r : Fin 256}
    (hq : ∀ c, q (ix2 r c) = tileQ x0 x3 x5 R c) (ht : ∀ d m, t (ix3 0 d m) = x1 (ix3 0 (col h d) m))
    (hv : ∀ m e, v (ix3 0 m e) = x2 (ix3 0 m (col h e)))
    (hs : ∀ m, s (ix2 r m) = ∑ d, q (ix2 r (col h d)) * t (ix3 0 d m)) (e : Fin 256) :
    k0_pay12 s v (ix2 r e) = tileO x0 x1 x2 x3 x5 R (col h e) := by
  rw [head_at]
  simp only [hs, hq, ht, hv, tileO, headOf_col]
  rfl

/-- A load of 256 rows of the tile. -/
theorem ld_rows {o : Nat} {inb} {r : Fin 256} {R : Fin 512} (hR : R.val = o + r.val) (k : Fin 1024) :
    View.ld x0 (Rect.unit ![0, o, 0] ![1, 256, 1024] inb) (ix3 (n0 := 1) (n1 := 256) (n2 := 1024) 0 r k) = x0 (ix3 0 R k) :=
  View.ld_unit_apply_of x0 _ _ _ _ _ fun a => by fin_cases a <;> simp [hR]

/-- A load of one head's keys. -/
theorem ld_keys {o : Nat} {inb} {h : Fin 4} (ho : o = h.val * 256) (d m : Fin 256) :
    View.ld x1 (Rect.unit ![0, o, 0] ![1, 256, 256] inb) (ix3 (n0 := 1) (n1 := 256) (n2 := 256) 0 d m) = x1 (ix3 0 (col h d) m) :=
  View.ld_unit_apply_of x1 _ _ _ _ _ fun a => by fin_cases a <;> simp [ho, col]

/-- A load of one head's values. -/
theorem ld_vals {o : Nat} {inb} {h : Fin 4} (ho : o = h.val * 256) (m e : Fin 256) :
    View.ld x2 (Rect.unit ![0, 0, o] ![1, 256, 256] inb) (ix3 (n0 := 1) (n1 := 256) (n2 := 256) 0 m e) = x2 (ix3 0 m (col h e)) :=
  View.ld_unit_apply_of x2 _ _ _ _ _ fun a => by fin_cases a <;> simp [ho, col]

/-- A whole gain and the whole weight. -/
theorem ld_gain {inb} : View.ld x3 (Rect.unit ![0, 0] ![1, 1024] inb) = x3 := View.ld_unit_lit _ _ (by decide)
theorem ld_wq {inb} : View.ld x5 (Rect.unit ![0, 0] ![1024, 1024] inb) = x5 := View.ld_unit_lit _ _ (by decide)

theorem ld_wg {inb} : View.ld x9 (Rect.unit ![0, 0] ![1024, 2816] inb) = x9 := View.ld_unit_lit _ _ (by decide)
theorem ld_wd {inb} : View.ld x11 (Rect.unit ![0, 0] ![2816, 1024] inb) = x11 := View.ld_unit_lit _ _ (by decide)

/-- The query block of 256 rows. -/
theorem query_rows {o : Nat} {inb} {r : Fin 256} {R : Fin 512} (hR : R.val = o + r.val) (c : Fin 1024) :
    k0_pay2 (View.ld x0 (Rect.unit ![0, o, 0] ![1, 256, 1024] inb)) x3 x5 (ix2 r c) = tileQ x0 x3 x5 R c := by
  rw [query_at]
  exact congrArg (fun f => qK f (gain x3) (fun k c => x5 (ix2 k c)) c) (funext fun k => ld_rows x0 hR k)

/-- The scratch as a whole. -/
noncomputable def tileS (i : S512x1024.Idx) : EReal := tileO x0 x1 x2 x3 x5 (i 0) (i 1)

/-- A block stored at rows `o` and head `h` is a block of the scratch. -/
theorem piece_block {o p : Nat} {inb} {h : Fin 4} {w : FVec Ideal S256x256 .bf16} (hp : p = h.val * 256)
    (hw : ∀ (r e : Fin 256) (R : Fin 512), R.val = o + r.val → w (ix2 r e) = tileO x0 x1 x2 x3 x5 R (col h e))
    (x : (Rect.unit (s := S512x1024) ![o, p] ![256, 256] inb).shape.Idx) :
    w x = tileS x0 x1 x2 x3 x5 ((Rect.unit (s := S512x1024) ![o, p] ![256, 256] inb).emb x) := by
  rw [ValueIdx.eq_ix2 (n0 := 256) (n1 := 256) x]
  have e1 : (Rect.unit (s := S512x1024) ![o, p] ![256, 256] inb).emb (ix2 (n0 := 256) (n1 := 256) (x 0) (x 1)) 1 = col h (x 1) :=
    Fin.ext (by simp [hp, col])
  unfold tileS
  erw [e1]
  refine hw _ _ _ ?_
  simp

variable (c : Dev nD) (arg2 : Memref sig .tc .vmem S1x512x1024 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024 .f32) (harg5 : arg5.IsWhole) (arg7 : Memref sig .tc .vmem S1024x1024 .bf16) (harg7 : arg7.IsWhole)

theorem scratch_pieces : View.PiecesOf (tileS x0 x1 x2 x3 x5)
    (kernelRun0_A.sl.HS0_8 c arg2 harg2 arg3 harg3 arg4 harg4 arg5 harg5 arg7 harg7 x0 x1 x2 x3 x5) := by
  sl_unfold_words
  simp only [View.readAt_eq_ld, harg2.read_unread, harg3.read_unread, harg4.read_unread, harg5.read_unread, harg7.read_unread,
    ld_gain, ld_wq, head0_eq, head2_eq, head3_eq, head4_eq, head5_eq, head6_eq, head7_eq, query_eq,
    score0_eq, score1_eq, score2_eq, score3_eq]
  refine ⟨?_, ?_, ?_, ?_, ?_, ?_, ?_, ?_, trivial⟩ <;> dsimp only
  · refine piece_block x0 x1 x2 x3 x5 (h := 3) rfl fun r e R hR => ?_
    exact piece_at x0 x1 x2 x3 x5 (query_rows x0 x3 x5 hR) (ld_keys x1 rfl) (ld_vals x2 rfl) (fun m => score3_at _ _ _ _) e
  · refine piece_block x0 x1 x2 x3 x5 (h := 2) rfl fun r e R hR => ?_
    exact piece_at x0 x1 x2 x3 x5 (query_rows x0 x3 x5 hR) (ld_keys x1 rfl) (ld_vals x2 rfl) (fun m => score2_at _ _ _ _) e
  · refine piece_block x0 x1 x2 x3 x5 (h := 1) rfl fun r e R hR => ?_
    exact piece_at x0 x1 x2 x3 x5 (query_rows x0 x3 x5 hR) (ld_keys x1 rfl) (ld_vals x2 rfl) (fun m => score1_at _ _ _ _) e
  · refine piece_block x0 x1 x2 x3 x5 (h := 0) rfl fun r e R hR => ?_
    exact piece_at x0 x1 x2 x3 x5 (query_rows x0 x3 x5 hR) (ld_keys x1 rfl) (ld_vals x2 rfl) (fun m => score0_at _ _ _ _) e
  · refine piece_block x0 x1 x2 x3 x5 (h := 3) rfl fun r e R hR => ?_
    exact piece_at x0 x1 x2 x3 x5 (query_rows x0 x3 x5 hR) (ld_keys x1 rfl) (ld_vals x2 rfl) (fun m => score3_at _ _ _ _) e
  · refine piece_block x0 x1 x2 x3 x5 (h := 2) rfl fun r e R hR => ?_
    exact piece_at x0 x1 x2 x3 x5 (query_rows x0 x3 x5 hR) (ld_keys x1 rfl) (ld_vals x2 rfl) (fun m => score2_at _ _ _ _) e
  · refine piece_block x0 x1 x2 x3 x5 (h := 1) rfl fun r e R hR => ?_
    exact piece_at x0 x1 x2 x3 x5 (query_rows x0 x3 x5 hR) (ld_keys x1 rfl) (ld_vals x2 rfl) (fun m => score1_at _ _ _ _) e
  · refine piece_block x0 x1 x2 x3 x5 (h := 0) rfl fun r e R hR => ?_
    exact piece_at x0 x1 x2 x3 x5 (query_rows x0 x3 x5 hR) (ld_keys x1 rfl) (ld_vals x2 rfl) (fun m => score0_at _ _ _ _) e

/-- The eight blocks cover the scratch. -/
theorem scratch_at (y : S512x1024.Idx) : View.canon
    (kernelRun0_A.sl.HS0_8 c arg2 harg2 arg3 harg3 arg4 harg4 arg5 harg5 arg7 harg7 x0 x1 x2 x3 x5) y = tileS x0 x1 x2 x3 x5 y := by
  have hc : ∃ p ∈ kernelRun0_A.sl.HS0_8 c arg2 harg2 arg3 harg3 arg4 harg4 arg5 harg5 arg7 harg7 x0 x1 x2 x3 x5, y ∈ p.1.set := by
    have h0 : (y 0).val < 512 := (y 0).isLt
    have h1 : (y 1).val < 1024 := (y 1).isLt
    unfold kernelRun0_A.sl.HS0_8
    simp only [List.mem_cons, List.not_mem_nil, or_false, exists_eq_or_imp, exists_eq_left, Rect.mem_set_unit, Fin.forall_fin_two]
    simp
    omega
  exact canon_of_pieces _ _ (scratch_pieces x0 x1 x2 x3 x5 c arg2 harg2 arg3 harg3 arg4 harg4 arg5 harg5 arg7 harg7) y hc

/-- The output as a whole tile. -/
noncomputable def tile (i : S1x512x1024.Idx) : EReal := tileY x0 x1 x2 x3 x4 x5 x6 x7 x8 x9 x10 x11 (i 1) (i 2)

variable (i : grid0.Coords) (arg6 : Memref sig .tc .vmem S1x1024 .f32) (harg6 : arg6.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2816 .bf16) (harg11 : arg11.IsWhole) (arg12 : Memref sig .tc .vmem S1024x2816 .bf16) (harg12 : arg12.IsWhole) (arg13 : Memref sig .tc .vmem S2816x1024 .bf16) (harg13 : arg13.IsWhole) (arg14 : Memref sig .tc .vmem S1x512x1024 .f32) (harg14 : arg14.IsWhole) (arg15 : Memref sig .tc .vmem S512x1024 .bf16) (harg15 : arg15.IsWhole)

/-- A half's stored block is a block of the tile. -/
theorem half_block {o : Nat} {inb inb'} {w : FVec Ideal S256x1024 .bf16}
    (hw : ∀ (r : Fin 256) (R : Fin 512) (k : Fin 1024), R.val = o + r.val → w (ix2 r k) = tileO x0 x1 x2 x3 x5 R k)
    (x : S1x256x1024.Idx) : half w x6 (View.ld x0 (Rect.unit ![0, o, 0] ![1, 256, 1024] inb')) x4 x7 x8 x9 x10 x11 x =
      tile x0 x1 x2 x3 x4 x5 x6 x7 x8 x9 x10 x11 ((Rect.unit (s := S1x512x1024) ![0, o, 0] ![1, 256, 1024] inb).emb x) := by
  have e2 : (Rect.unit (s := S1x512x1024) ![0, o, 0] ![1, 256, 1024] inb).emb x 2 = x 2 := Fin.ext (by simp)
  obtain ⟨r, k, rfl⟩ : ∃ (r : Fin 256) (k : Fin 1024), x = ix3 0 r k :=
    ⟨x 1, x 2, (ValueIdx.eq_ix3 x).trans (congrArg (fun a : Fin 1 => ix3 a (x 1) (x 2)) (Fin.fin_one_eq_zero _))⟩
  have hR : ((Rect.unit (s := S1x512x1024) ![0, o, 0] ![1, 256, 1024] inb).emb (ix3 0 r k) 1).val = o + r.val := by simp
  rw [half_at]
  unfold tile tileY
  erw [e2]
  have e3 : hrow (View.ld x0 (Rect.unit ![0, o, 0] ![1, 256, 1024] inb')) r =
      fun k => x0 (ix3 0 ((Rect.unit (s := S1x512x1024) ![0, o, 0] ![1, 256, 1024] inb).emb (ix3 0 r k) 1) k) :=
    funext fun k => ld_rows x0 hR k
  have e4 : (fun k => w (ix2 r k)) = tileO x0 x1 x2 x3 x5 ((Rect.unit (s := S1x512x1024) ![0, o, 0] ![1, 256, 1024] inb).emb (ix3 0 r k) 1) :=
    funext fun k => hw _ _ _ hR
  rw [e3, e4]
  rfl

theorem out_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 =
    tile x0 x1 x2 x3 x4 x5 x6 x7 x8 x9 x10 x11 := by
  have hs : ∀ {o : Nat} {inb} (r : Fin 256) (R : Fin 512) (k : Fin 1024), R.val = o + r.val →
      arg15.view.readCov (kernelRun0_A.sl.HS0_8 c arg2 harg2 arg3 harg3 arg4 harg4 arg5 harg5 arg7 harg7 x0 x1 x2 x3 x5)
        (Rect.unit (s := S512x1024) ![o, 0] ![256, 1024] inb).toLoadRect (ix2 (n0 := 256) (n1 := 1024) r k) = tileO x0 x1 x2 x3 x5 R k := by
    intro o inb r R k hR
    rw [View.readCov_eq_canon']
    refine (scratch_at x0 x1 x2 x3 x5 c arg2 harg2 arg3 harg3 arg4 harg4 arg5 harg5 arg7 harg7 _).trans ?_
    unfold tileS
    congr 1
    · exact Fin.ext (by simp [hR])
    · exact Fin.ext (by simp)
  unfold out0_A_12
  rw [View.read_writes_junk_eq_canon]
  unfold kernelRun0_A
  dsimp only
  funext y
  refine canon_of_pieces (e := .f32) (tile x0 x1 x2 x3 x4 x5 x6 x7 x8 x9 x10 x11) _ ?_ y ?_
  · simp only [kernelRun0_A.sl.r_19, kernelRun0_A.sl.r_20, kernelRun0_A.sl.r_21, kernelRun0_A.sl.r_22, kernelRun0_A.sl.r_23,
      kernelRun0_A.sl.r_24, kernelRun0_A.sl.r_25, kernelRun0_A.sl.r_26, kernelRun0_A.sl.r_27, kernelRun0_A.sl.r_28, kernelRun0_A.sl.r_29,
      kernelRun0_A.sl.v228, kernelRun0_A.sl.v248, View.readAt_eq_ld, harg2.read_unread, harg6.read_unread, harg8.read_unread,
      harg9.read_unread, harg10.read_unread, harg11.read_unread, harg12.read_unread, harg13.read_unread,
      ld_gain, ld_wq, ld_wg, ld_wd, half_eq, half_eq_first]
    refine ⟨?_, ?_, trivial⟩ <;> dsimp only <;> intro x
    · exact half_block x0 x1 x2 x3 x4 x5 x6 x7 x8 x9 x10 x11 (fun r R k => hs r R k) x
    · exact half_block x0 x1 x2 x3 x4 x5 x6 x7 x8 x9 x10 x11 (fun r R k => hs r R k) x
  · have h1 : (y 1).val < 512 := (y 1).isLt
    have h2 : (y 2).val < 1024 := (y 2).isLt
    have h0 : (y 0).val < 1 := (y 0).isLt
    simp only [List.mem_cons, List.not_mem_nil, or_false, exists_eq_or_imp, exists_eq_left, Rect.mem_set_unit, Fin.forall_fin_succ, Fin.forall_fin_zero_pi]
    simp
    omega
end
end Cert.Xattn
end
-- ==== Proof.Xattn.Final.lean ====
module
public import proofs.«01_k».proof.Proof.Xattn.Block
@[expose] public section
set_option maxRecDepth 16384
noncomputable section
namespace Cert.Xattn
open Cert.KernelIdeal Cert.KernelIdeal.Gen Cert.KernelIdeal.Value Idealize.ShloMosaic Idealize.ShloMosaic.TcCoe Idealize.SL.Sem

/-! The kernel's result as one function of its arguments: row `r` of batch `b` is the step on that row. -/

/-- The result's row from the argument arrays. -/
def outRow (a0 : Vec Ideal S8x4096x1024 .f32) (a1 : Vec Ideal S8x1024x256 .bf16) (a2 : Vec Ideal S8x256x1024 .bf16)
    (a3 a4 : Vec Ideal S1x1024 .f32) (a5 a6 : Vec Ideal S1024x1024 .bf16) (a7 a8 : Vec Ideal S1x1024 .f32)
    (a9 a10 : Vec Ideal S1024x2816 .bf16) (a11 : Vec Ideal S2816x1024 .bf16) (b : Fin 8) (r : Fin 4096) : Fin 1024 → EReal :=
  ffnK (afterAtt (fun k => a0 (ix3 b r k))
      (fun k => attK (score (qK (fun k => a0 (ix3 b r k)) (gain a3) (fun k c => a5 (ix2 k c))) (fun k m => a1 (ix3 b k m)) (headOf k))
        (fun m => a2 (ix3 b m k)))
      (gain a4) (fun k c => a6 (ix2 k c)))
    (gain a7) (gain a8) (fun k c => a9 (ix2 k c)) (fun k c => a10 (ix2 k c)) (fun k c => a11 (ix2 k c))

/-- The result array. -/
def G (a0 : Vec Ideal S8x4096x1024 .f32) (a1 : Vec Ideal S8x1024x256 .bf16) (a2 : Vec Ideal S8x256x1024 .bf16)
    (a3 a4 : Vec Ideal S1x1024 .f32) (a5 a6 : Vec Ideal S1024x1024 .bf16) (a7 a8 : Vec Ideal S1x1024 .f32)
    (a9 a10 : Vec Ideal S1024x2816 .bf16) (a11 : Vec Ideal S2816x1024 .bf16) : Vec Ideal S8x4096x1024 .f32 :=
  fun i => outRow a0 a1 a2 a3 a4 a5 a6 a7 a8 a9 a10 a11 (i 0) (i 1) (i 2)

variable (m : (ℓ : Loc nD τ sig) → Buf (Elt Ideal) ℓ) (ρ : Dev nD → PrngReg)

/-- The block indices of the windows, decided over the grid. -/
theorem idx0 : ∀ t : Fin cfg0.N, win0_0.index t (0 : Fin 3) = win0_12.index t (0 : Fin 3) ∧ win0_0.index t (1 : Fin 3) = win0_12.index t (1 : Fin 3)
    ∧ win0_0.index t (2 : Fin 3) = 0 ∧ win0_12.index t (2 : Fin 3) = 0 ∧ win0_12.index t (0 : Fin 3) < 8 ∧ win0_12.index t (1 : Fin 3) < 8 :=
  (by decide +kernel : ∀ t : Fin grid0.N, _)
theorem idx1 : ∀ t : Fin cfg0.N, win0_1.index t (0 : Fin 3) = win0_12.index t (0 : Fin 3) ∧ win0_1.index t (1 : Fin 3) = 0 ∧ win0_1.index t (2 : Fin 3) = 0 :=
  (by decide +kernel : ∀ t : Fin grid0.N, _)
theorem idx2 : ∀ t : Fin cfg0.N, win0_2.index t (0 : Fin 3) = win0_12.index t (0 : Fin 3) ∧ win0_2.index t (1 : Fin 3) = 0 ∧ win0_2.index t (2 : Fin 3) = 0 :=
  (by decide +kernel : ∀ t : Fin grid0.N, _)
theorem idx_rest : ∀ t : Fin cfg0.N, ∀ a : Fin 2, win0_3.index t a = 0 ∧ win0_4.index t a = 0 ∧ win0_5.index t a = 0 ∧ win0_6.index t a = 0
    ∧ win0_7.index t a = 0 ∧ win0_8.index t a = 0 ∧ win0_9.index t a = 0 ∧ win0_10.index t a = 0 ∧ win0_11.index t a = 0 :=
  (by decide +kernel : ∀ t : Fin grid0.N, _)

/-- The batch and the first row of point `t`'s tile. -/
def bOf (t : Fin cfg0.N) : Fin 8 := ⟨win0_12.index t (0 : Fin 3), (idx0 t).2.2.2.2.1⟩
def rOf (t : Fin cfg0.N) (R : Fin 512) : Fin 4096 := ⟨win0_12.index t (1 : Fin 3) * 512 + R.val, by have := (idx0 t).2.2.2.2.2; omega⟩

/-- A gain reaches its window as it is: it is flattened and shaped back. -/
theorem cast_gain (x : Vec Ideal S1x1024 .f32) : shapeCast S1x1024 (shapeCast S1024 x shapeCasts_S1x1024_S1024) shapeCasts_S1024_S1x1024 = x := by
  funext j
  obtain ⟨k, rfl⟩ : ∃ k : Fin 1024, j = ix2 0 k :=
    ⟨j 1, (ValueIdx.eq_ix2 j).trans (congrArg (fun a : Fin 1 => ix2 a (j 1)) (Fin.fin_one_eq_zero _))⟩
  pointwise

theorem V_main_v1 (c : Dev nD) : V m c main_v1 = m ((c : Thread nD τ).loc main_arg3) := by
  show StableHlo.after hostOps0 _ (Proc.devRef .tc main_v1) = _
  after_results
  exact cast_gain _
theorem V_main_v3 (c : Dev nD) : V m c main_v3 = m ((c : Thread nD τ).loc main_arg4) := by
  show StableHlo.after hostOps0 _ (Proc.devRef .tc main_v3) = _
  after_results
  exact cast_gain _
theorem V_main_v5 (c : Dev nD) : V m c main_v5 = m ((c : Thread nD τ).loc main_arg7) := by
  show StableHlo.after hostOps0 _ (Proc.devRef .tc main_v5) = _
  after_results
  exact cast_gain _
theorem V_main_v7 (c : Dev nD) : V m c main_v7 = m ((c : Thread nD τ).loc main_arg8) := by
  show StableHlo.after hostOps0 _ (Proc.devRef .tc main_v7) = _
  after_results
  exact cast_gain _

/-! The windows' blocks: the weights and gains whole, the tile's rows, the batch's keys and values. -/

theorem iblk3_eq (c : Dev nD) (t : Fin cfg0.N) : iblk m c 3 t = V m c main_v1 := by
  have e0 := (idx_rest t 0).1
  have e1 := (idx_rest t 1).1
  funext j; show V m c main_v1 (((cfg0.win 3).blk t).view.emb j) = V m c main_v1 j
  congr 1; funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega
theorem iblk4_eq (c : Dev nD) (t : Fin cfg0.N) : iblk m c 4 t = V m c main_v3 := by
  have e0 := (idx_rest t 0).2.1
  have e1 := (idx_rest t 1).2.1
  funext j; show V m c main_v3 (((cfg0.win 4).blk t).view.emb j) = V m c main_v3 j
  congr 1; funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega
theorem iblk5_eq (c : Dev nD) (t : Fin cfg0.N) : iblk m c 5 t = V m c main_arg5 := by
  have e0 := (idx_rest t 0).2.2.1
  have e1 := (idx_rest t 1).2.2.1
  funext j; show V m c main_arg5 (((cfg0.win 5).blk t).view.emb j) = V m c main_arg5 j
  congr 1; funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega
theorem iblk6_eq (c : Dev nD) (t : Fin cfg0.N) : iblk m c 6 t = V m c main_arg6 := by
  have e0 := (idx_rest t 0).2.2.2.1
  have e1 := (idx_rest t 1).2.2.2.1
  funext j; show V m c main_arg6 (((cfg0.win 6).blk t).view.emb j) = V m c main_arg6 j
  congr 1; funext a; apply Fin.ext
  match a with
  | ⟨0, _⟩ => show win0_6.index t (0 : Fin 2) * 1024 + 1 * (j 0).val = (j 0).val; omega
  | ⟨1, _⟩ => show win0_6.index t (1 : Fin 2) * 1024 + 1 * (j 1).val = (j 1).val; omega
theorem iblk7_eq (c : Dev nD) (t : Fin cfg0.N) : iblk m c 7 t = V m c main_v5 := by
  have e0 := (idx_rest t 0).2.2.2.2.1
  have e1 := (idx_rest t 1).2.2.2.2.1
  funext j; show V m c main_v5 (((cfg0.win 7).blk t).view.emb j) = V m c main_v5 j
  congr 1; funext a; apply Fin.ext
  match a with
  | ⟨0, _⟩ => show win0_7.index t (0 : Fin 2) * 1 + 1 * (j 0).val = (j 0).val; omega
  | ⟨1, _⟩ => show win0_7.index t (1 : Fin 2) * 1024 + 1 * (j 1).val = (j 1).val; omega
theorem iblk8_eq (c : Dev nD) (t : Fin cfg0.N) : iblk m c 8 t = V m c main_v7 := by
  have e0 := (idx_rest t 0).2.2.2.2.2.1
  have e1 := (idx_rest t 1).2.2.2.2.2.1
  funext j; show V m c main_v7 (((cfg0.win 8).blk t).view.emb j) = V m c main_v7 j
  congr 1; funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega
theorem iblk9_eq (c : Dev nD) (t : Fin cfg0.N) : iblk m c 9 t = V m c main_arg9 := by
  have e0 := (idx_rest t 0).2.2.2.2.2.2.1
  have e1 := (idx_rest t 1).2.2.2.2.2.2.1
  funext j; show V m c main_arg9 (((cfg0.win 9).blk t).view.emb j) = V m c main_arg9 j
  congr 1; funext a; apply Fin.ext
  match a with
  | ⟨0, _⟩ => show win0_9.index t (0 : Fin 2) * 1024 + 1 * (j 0).val = (j 0).val; omega
  | ⟨1, _⟩ => show win0_9.index t (1 : Fin 2) * 2816 + 1 * (j 1).val = (j 1).val; omega
theorem iblk10_eq (c : Dev nD) (t : Fin cfg0.N) : iblk m c 10 t = V m c main_arg10 := by
  have e0 := (idx_rest t 0).2.2.2.2.2.2.2.1
  have e1 := (idx_rest t 1).2.2.2.2.2.2.2.1
  funext j; show V m c main_arg10 (((cfg0.win 10).blk t).view.emb j) = V m c main_arg10 j
  congr 1; funext a; apply Fin.ext
  match a with
  | ⟨0, _⟩ => show win0_10.index t (0 : Fin 2) * 1024 + 1 * (j 0).val = (j 0).val; omega
  | ⟨1, _⟩ => show win0_10.index t (1 : Fin 2) * 2816 + 1 * (j 1).val = (j 1).val; omega
theorem iblk11_eq (c : Dev nD) (t : Fin cfg0.N) : iblk m c 11 t = V m c main_arg11 := by
  have e0 := (idx_rest t 0).2.2.2.2.2.2.2.2
  have e1 := (idx_rest t 1).2.2.2.2.2.2.2.2
  funext j; show V m c main_arg11 (((cfg0.win 11).blk t).view.emb j) = V m c main_arg11 j
  congr 1; funext a; apply Fin.ext
  match a with
  | ⟨0, _⟩ => show win0_11.index t (0 : Fin 2) * 2816 + 1 * (j 0).val = (j 0).val; omega
  | ⟨1, _⟩ => show win0_11.index t (1 : Fin 2) * 1024 + 1 * (j 1).val = (j 1).val; omega

theorem iblk0_at (c : Dev nD) (t : Fin cfg0.N) (R : Fin 512) (k : Fin 1024) :
    iblk m c 0 t (ix3 (n0 := 1) (n1 := 512) (n2 := 1024) 0 R k) = V m c main_arg0 (ix3 (bOf t) (rOf t R) k) := by
  obtain ⟨e0, e1, e2, -⟩ := idx0 t
  show V m c main_arg0 (((cfg0.win 0).blk t).view.emb (ix3 (n0 := 1) (n1 := 512) (n2 := 1024) 0 R k)) = _
  congr 1; funext a; apply Fin.ext
  match a with
  | ⟨0, _⟩ => show win0_0.index t (0 : Fin 3) * 1 + 1 * 0 = win0_12.index t (0 : Fin 3); omega
  | ⟨1, _⟩ => show win0_0.index t (1 : Fin 3) * 512 + 1 * R.val = win0_12.index t (1 : Fin 3) * 512 + R.val; omega
  | ⟨2, _⟩ => show win0_0.index t (2 : Fin 3) * 1024 + 1 * k.val = k.val; omega
theorem iblk1_at (c : Dev nD) (t : Fin cfg0.N) (k : Fin 1024) (d : Fin 256) :
    iblk m c 1 t (ix3 (n0 := 1) (n1 := 1024) (n2 := 256) 0 k d) = V m c main_arg1 (ix3 (bOf t) k d) := by
  obtain ⟨e0, e1, e2⟩ := idx1 t
  show V m c main_arg1 (((cfg0.win 1).blk t).view.emb (ix3 (n0 := 1) (n1 := 1024) (n2 := 256) 0 k d)) = _
  congr 1; funext a; apply Fin.ext
  match a with
  | ⟨0, _⟩ => show win0_1.index t (0 : Fin 3) * 1 + 1 * 0 = win0_12.index t (0 : Fin 3); omega
  | ⟨1, _⟩ => show win0_1.index t (1 : Fin 3) * 1024 + 1 * k.val = k.val; omega
  | ⟨2, _⟩ => show win0_1.index t (2 : Fin 3) * 256 + 1 * d.val = d.val; omega
theorem iblk2_at (c : Dev nD) (t : Fin cfg0.N) (d : Fin 256) (k : Fin 1024) :
    iblk m c 2 t (ix3 (n0 := 1) (n1 := 256) (n2 := 1024) 0 d k) = V m c main_arg2 (ix3 (bOf t) d k) := by
  obtain ⟨e0, e1, e2⟩ := idx2 t
  show V m c main_arg2 (((cfg0.win 2).blk t).view.emb (ix3 (n0 := 1) (n1 := 256) (n2 := 1024) 0 d k)) = _
  congr 1; funext a; apply Fin.ext
  match a with
  | ⟨0, _⟩ => show win0_2.index t (0 : Fin 3) * 1 + 1 * 0 = win0_12.index t (0 : Fin 3); omega
  | ⟨1, _⟩ => show win0_2.index t (1 : Fin 3) * 256 + 1 * d.val = d.val; omega
  | ⟨2, _⟩ => show win0_2.index t (2 : Fin 3) * 1024 + 1 * k.val = k.val; omega

/-- The output window's block places row `R` of the tile at row `rOf t R` of batch `bOf t`. -/
theorem emb12 (t : Fin cfg0.N) (j : S1x512x1024.Idx) : ((cfg0.win 12).blk t).view.emb j = ix3 (bOf t) (rOf t (j 1)) (j 2) := by
  obtain ⟨-, -, -, e2, -⟩ := idx0 t
  have h0 : (j 0).val = 0 := Nat.lt_one_iff.mp (j 0).isLt
  funext a; apply Fin.ext
  match a with
  | ⟨0, _⟩ => show win0_12.index t (0 : Fin 3) * 1 + 1 * (j 0).val = win0_12.index t (0 : Fin 3); omega
  | ⟨1, _⟩ => show win0_12.index t (1 : Fin 3) * 512 + 1 * (j 1).val = win0_12.index t (1 : Fin 3) * 512 + (j 1).val; omega
  | ⟨2, _⟩ => show win0_12.index t (2 : Fin 3) * 1024 + 1 * (j 2).val = (j 2).val; omega

/-- The result of the arrays as the region finds them. -/
abbrev GV (c : Dev nD) : Vec Ideal S8x4096x1024 .f32 := G (V m c main_arg0) (V m c main_arg1) (V m c main_arg2) (V m c main_v1) (V m c main_v3) (V m c main_arg5) (V m c main_arg6)
    (V m c main_v5) (V m c main_v7) (V m c main_arg9) (V m c main_arg10) (V m c main_arg11)

theorem flushed_eq (c : Dev nD) (t : Fin cfg0.N) :
    (dats m 0 c).flushed 12 t = ((cfg0.win 12).blk t).view.read (Elt Ideal) (GV m c) := by
  rw [flushed12_A, out_eq, iblk3_eq, iblk4_eq, iblk5_eq, iblk6_eq, iblk7_eq, iblk8_eq, iblk9_eq, iblk10_eq, iblk11_eq]
  funext j
  show tile _ _ _ _ _ _ _ _ _ _ _ _ j = GV m c (((cfg0.win 12).blk t).view.emb j)
  rw [emb12]
  show tileY _ _ _ _ _ _ _ _ _ _ _ _ (j 1) (j 2) = outRow _ _ _ _ _ _ _ _ _ _ _ _ (bOf t) (rOf t (j 1)) (j 2)
  have e0 : ∀ R : Fin 512, (fun k : Fin 1024 => iblk m c 0 t (ix3 (n0 := 1) (n1 := 512) (n2 := 1024) 0 R k)) = fun k => V m c main_arg0 (ix3 (bOf t) (rOf t R) k) :=
    fun R => funext fun k => iblk0_at m c t R k
  have e1 : (fun (k : Fin 1024) (d : Fin 256) => iblk m c 1 t (ix3 (n0 := 1) (n1 := 1024) (n2 := 256) 0 k d)) = fun k d => V m c main_arg1 (ix3 (bOf t) k d) :=
    funext fun k => funext fun d => iblk1_at m c t k d
  have e2 : ∀ k : Fin 1024, (fun (d : Fin 256) => iblk m c 2 t (ix3 (n0 := 1) (n1 := 256) (n2 := 1024) 0 d k)) = fun d => V m c main_arg2 (ix3 (bOf t) d k) :=
    fun k => funext fun d => iblk2_at m c t d k
  unfold tileY outRow tileO tileQ
  erw [e0, e1]
  simp only [e2]

/-- Every index of the result is in some point's block. -/
theorem cover_pt : ∀ (b : Fin 8) (q : Fin 8), ∃ t : Fin cfg0.N, win0_12.index t (0 : Fin 3) = b.val ∧ win0_12.index t (1 : Fin 3) = q.val :=
  (by decide +kernel : ∀ (b : Fin 8) (q : Fin 8), ∃ t : Fin grid0.N, win0_12.index t (0 : Fin 3) = b.val ∧ win0_12.index t (1 : Fin 3) = q.val)

theorem covered (i : S8x4096x1024.Idx) : ∃ t : Fin cfg0.N, (cfg0.win 12).flush t = true ∧ i ∈ ((cfg0.win 12).blk t).view.set := by
  have h1 : (i 1).val < 4096 := (i 1).isLt
  obtain ⟨t, hb, hq⟩ := cover_pt (i 0) ⟨(i 1).val / 512, by omega⟩
  refine ⟨t, flush0_12 t, ?_⟩
  have h := ((cfg0.win 12).blk t).view.emb_mem_set (ix3 (n0 := 1) (n1 := 512) (n2 := 1024) 0 ⟨(i 1).val % 512, by omega⟩ (i 2))
  rw [emb12] at h
  have e : i = ix3 (bOf t) (rOf t ⟨(i 1).val % 512, by omega⟩) (i 2) := by
    refine (ValueIdx.eq_ix3 i).trans ?_
    congr 1
    · exact Fin.ext hb.symm
    · exact Fin.ext (by simp only [rOf, hq]; omega)
  rw [e]; exact h

/-- The result array after the run is `G` of the arguments. -/
theorem final (c : Dev nD) : (dats m 0 c).arrAt 12 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  ((dats m 0 c).arrAt_eq_of_cover 12 (GV m c) (fun t _ => flushed_eq m c t) covered).trans
    (by unfold GV; rw [V_main_v1, V_main_v3, V_main_v5, V_main_v7, V_main_arg0, V_main_arg1, V_main_arg2, V_main_arg5, V_main_arg6, V_main_arg9, V_main_arg10, V_main_arg11])

end Cert.Xattn
end
-- ==== Proof.Xattn.Ref.lean ====
module
public import proofs.«01_k».proof.Proof.Gen.ReferenceIdeal.Read
public import proofs.«01_k».proof.Proof.Xattn.Row
@[expose] public section
set_option maxRecDepth 16384
noncomputable section
namespace Cert.Xattn.Ref
open Cert.ReferenceIdeal Cert.ReferenceIdeal.Gen Cert.ReferenceIdeal.Read Idealize.ShloMosaic Idealize.ShloMosaic.TcCoe

/-! The reference's result read at an index, in the row functions of `Row`. -/

/-- The shift of the reference's softmax. -/
def shift (s : Fin 256 → EReal) : EReal := max (Ideal.ofBits .f32 4286578688#32) (top s)

/-- The reference's attention: the value product of the normalised exponentials. -/
def attR (s v : Fin 256 → EReal) : EReal :=
  ∑ m, v m * Ideal.div (Ideal.exp (s m - shift s)) (∑ n, Ideal.exp (s n - shift s))

/-- The reference's gate value. -/
def gateR (a b : EReal) : EReal := a * Ideal.div 1 (1 + Ideal.exp (-a)) * b

/-- The reference's scores: the plain dot products scaled by a sixteenth. -/
def scoreR (q : Fin 1024 → EReal) (kt : Fin 1024 → Fin 256 → EReal) (h : Fin 4) (m : Fin 256) : EReal :=
  score q kt h m * Ideal.ofBits .f32 1031798784#32

/-- The reference's feed-forward step. -/
def ffnR (x g7 g8 : Fin 1024 → EReal) (wg wu : Fin 1024 → Fin 2816 → EReal) (wd : Fin 2816 → Fin 1024 → EReal) : Fin 1024 → EReal :=
  upd x (mm (fun j => gateR (mm (nrm x g7) wg j) (mm (nrm x g7) wu j)) wd) g8

variable (x0 : Vec Ideal S8x4096x1024 .f32) (x1 : Vec Ideal S8x1024x256 .bf16) (x2 : Vec Ideal S8x256x1024 .bf16)
    (x3 x4 : Vec Ideal S1x1024 .f32) (x5 x6 : Vec Ideal S1024x1024 .bf16) (x7 x8 : Vec Ideal S1x1024 .f32)
    (x9 x10 : Vec Ideal S1024x2816 .bf16) (x11 : Vec Ideal S2816x1024 .bf16)
variable (b : Fin 8) (r : Fin 4096)

theorem v23_at (k : Fin 1024) : val_main_v23 x0 x3 (ix3 b r k) = nrm (fun k => x0 (ix3 b r k)) (fun k => x3 (ix2 0 k)) k := by
  pointwise [val_main_v23, val_main_v22, val_main_v21, val_main_v20, val_main_v19, val_main_v18, val_main_v17, val_main_v16, val_main_v15, val_main_v14, val_main_v13, val_main_v12, val_main_v11, val_main_v10, val_main_cst, val_main_cst_0, val_main_cst_1]
  rfl
theorem v24_at (k : Fin 1024) : val_main_v24 x0 x3 x5 (ix3 b r k) = mm (nrm (fun k => x0 (ix3 b r k)) (fun k => x3 (ix2 0 k))) (fun k c => x5 (ix2 k c)) k := by
  pointwise [val_main_v24, val_main_v0]
  simp only [v23_at]; rfl
theorem v28_at (h : Fin 4) (m : Fin 256) : val_main_v28 x0 x1 x3 x5 (ix4 b h r m)
    = scoreR (fun k => val_main_v24 x0 x3 x5 (ix3 b r k)) (fun k m => x1 (ix3 b k m)) h m := by
  pointwise [val_main_v28, val_main_v27, val_main_cst_2, val_main_v26, val_main_v25, val_main_v7, val_main_v6, val_main_v5]
  rfl
/-- A maximum over the last of four axes, at an index. -/
theorem reduce_max {n0 n1 n2 n3 : Nat} (v : FVec Ideal ⟨4, ![n0, n1, n2, n3]⟩ .f32) (z : FVec Ideal S_ .f32)
    (h : (⟨4, ![n0, n1, n2, n3]⟩ : Shape).ReducesTo [3] ⟨3, ![n0, n1, n2]⟩) (hz : 0 < S_.numel) (a : Fin n0) (b : Fin n1) (c : Fin n2) :
    Host.reduce FloatOps.maximumf v z h hz (ix3 a b c) = Finset.univ.fold max (z (Shape.Idx.first hz)) fun k : Fin n3 => v (ix4 a b c k) := by
  pointwise
theorem v29_at (h : Fin 4) : val_main_v29 x0 x1 x3 x5 (ix3 b h r) = top (fun m => val_main_v28 x0 x1 x3 x5 (ix4 b h r m)) := by
  unfold val_main_v29
  generalize val_main_v28 x0 x1 x3 x5 = y
  exact reduce_max y _ _ _ b h r
theorem v31_at (h : Fin 4) : val_main_v31 x0 x1 x3 x5 (ix3 b h r) = shift (fun m => val_main_v28 x0 x1 x3 x5 (ix4 b h r m)) := by
  rw [val_main_v31_apply, val_main_v30_apply, v29_at]; rfl
theorem v35_at (h : Fin 4) (m : Fin 256) : val_main_v35 x0 x1 x3 x5 (ix4 b h r m) = Ideal.exp (val_main_v28 x0 x1 x3 x5 (ix4 b h r m) - val_main_v31 x0 x1 x3 x5 (ix3 b h r)) := by
  pointwise [val_main_v35, val_main_v34, val_main_v33, val_main_v32]
theorem v39_at (h : Fin 4) (m : Fin 256) : val_main_v39 x0 x1 x3 x5 (ix4 b h r m)
    = Ideal.div (val_main_v35 x0 x1 x3 x5 (ix4 b h r m)) (∑ n : Fin 256, val_main_v35 x0 x1 x3 x5 (ix4 b h r n)) := by
  pointwise [val_main_v39, val_main_v38, val_main_v37, val_main_v36, val_main_cst_5]
theorem v42_at (k : Fin 1024) : val_main_v42 x0 x1 x2 x3 x5 (ix3 b r k)
    = ∑ m : Fin 256, x2 (ix3 b m k) * val_main_v39 x0 x1 x3 x5 (ix4 b (headOf k) r m) := by
  pointwise [val_main_v42, val_main_v41, val_main_v40, val_main_v9, val_main_v8]
  rfl
/-- The attention's row. -/
theorem att_at (k : Fin 1024) : val_main_v42 x0 x1 x2 x3 x5 (ix3 b r k)
    = attR (scoreR (mm (nrm (fun k => x0 (ix3 b r k)) (fun k => x3 (ix2 0 k))) (fun k c => x5 (ix2 k c))) (fun k m => x1 (ix3 b k m)) (headOf k))
        (fun m => x2 (ix3 b m k)) := by
  simp only [v42_at, v39_at, v35_at, v31_at, v28_at, v24_at]; rfl

theorem v43_at (k : Fin 1024) : val_main_v43 x0 x1 x2 x3 x5 x6 (ix3 b r k) = mm (fun k => val_main_v42 x0 x1 x2 x3 x5 (ix3 b r k)) (fun k c => x6 (ix2 k c)) k := by
  pointwise [val_main_v43, val_main_v1]
  rfl
theorem v58_at (k : Fin 1024) : val_main_v58 x0 x1 x2 x3 x4 x5 x6 (ix3 b r k)
    = upd (fun k => x0 (ix3 b r k)) (fun k => val_main_v43 x0 x1 x2 x3 x5 x6 (ix3 b r k)) (fun k => x4 (ix2 0 k)) k := by
  pointwise [val_main_v58, val_main_v57, val_main_v56, val_main_v55, val_main_v54, val_main_v53, val_main_v52, val_main_v51, val_main_v50, val_main_v49, val_main_v48, val_main_v47, val_main_v46, val_main_v45, val_main_v44, val_main_cst_6, val_main_cst_7, val_main_cst_8]
  rfl
theorem v72_at (k : Fin 1024) : val_main_v72 x0 x1 x2 x3 x4 x5 x6 x7 (ix3 b r k)
    = nrm (fun k => val_main_v58 x0 x1 x2 x3 x4 x5 x6 (ix3 b r k)) (fun k => x7 (ix2 0 k)) k := by
  pointwise [val_main_v72, val_main_v71, val_main_v70, val_main_v69, val_main_v68, val_main_v67, val_main_v66, val_main_v65, val_main_v64, val_main_v63, val_main_v62, val_main_v61, val_main_v60, val_main_v59, val_main_cst_9, val_main_cst_10, val_main_cst_11]
  rfl
theorem v73_at (j : Fin 2816) : val_main_v73 x0 x1 x2 x3 x4 x5 x6 x7 x9 (ix3 b r j)
    = mm (fun k => val_main_v72 x0 x1 x2 x3 x4 x5 x6 x7 (ix3 b r k)) (fun k c => x9 (ix2 k c)) j := by
  pointwise [val_main_v73, val_main_v2]
  rfl
theorem v75_at (j : Fin 2816) : val_main_v75 x0 x1 x2 x3 x4 x5 x6 x7 x10 (ix3 b r j)
    = mm (fun k => val_main_v72 x0 x1 x2 x3 x4 x5 x6 x7 (ix3 b r k)) (fun k c => x10 (ix2 k c)) j := by
  pointwise [val_main_v75, val_main_v3]
  rfl
theorem v76_at (j : Fin 2816) : val_main_v76 x0 x1 x2 x3 x4 x5 x6 x7 x9 x10 (ix3 b r j)
    = gateR (val_main_v73 x0 x1 x2 x3 x4 x5 x6 x7 x9 (ix3 b r j)) (val_main_v75 x0 x1 x2 x3 x4 x5 x6 x7 x10 (ix3 b r j)) := by
  pointwise [val_main_v76, val_main_v74, val_main_call0_v5, val_main_call0_v4, val_main_call0_cst_0, val_main_call0_v3, val_main_call0_v2, val_main_call0_cst, val_main_call0_v1, val_main_call0_v0]
  rfl
theorem v77_at (k : Fin 1024) : val_main_v77 x0 x1 x2 x3 x4 x5 x6 x7 x9 x10 x11 (ix3 b r k)
    = mm (fun j => val_main_v76 x0 x1 x2 x3 x4 x5 x6 x7 x9 x10 (ix3 b r j)) (fun k c => x11 (ix2 k c)) k := by
  pointwise [val_main_v77, val_main_v4]
  rfl
theorem v92_at (k : Fin 1024) : val_main_v92 x0 x1 x2 x3 x4 x5 x6 x7 x8 x9 x10 x11 (ix3 b r k)
    = upd (fun k => val_main_v58 x0 x1 x2 x3 x4 x5 x6 (ix3 b r k)) (fun k => val_main_v77 x0 x1 x2 x3 x4 x5 x6 x7 x9 x10 x11 (ix3 b r k)) (fun k => x8 (ix2 0 k)) k := by
  pointwise [val_main_v92, val_main_v91, val_main_v90, val_main_v89, val_main_v88, val_main_v87, val_main_v86, val_main_v85, val_main_v84, val_main_v83, val_main_v82, val_main_v81, val_main_v80, val_main_v79, val_main_v78, val_main_cst_12, val_main_cst_13, val_main_cst_14]
  rfl

/-- The reference's result row. -/
theorem out_at (k : Fin 1024) : val_main_v92 x0 x1 x2 x3 x4 x5 x6 x7 x8 x9 x10 x11 (ix3 b r k)
    = ffnR (upd (fun k => x0 (ix3 b r k))
        (mm (fun k => attR (scoreR (mm (nrm (fun k => x0 (ix3 b r k)) (fun k => x3 (ix2 0 k))) (fun k c => x5 (ix2 k c))) (fun k m => x1 (ix3 b k m)) (headOf k))
          (fun m => x2 (ix3 b m k))) (fun k c => x6 (ix2 k c))) (fun k => x4 (ix2 0 k)))
      (fun k => x7 (ix2 0 k)) (fun k => x8 (ix2 0 k)) (fun k c => x9 (ix2 k c)) (fun k c => x10 (ix2 k c)) (fun k c => x11 (ix2 k c)) k := by
  simp only [v92_at, v77_at, v76_at, v75_at, v73_at, v72_at, v58_at, v43_at, att_at]; rfl

end Cert.Xattn.Ref
end
-- ==== Proof.Xattn.Math.lean ====
module
public import proofs.«01_k».proof.Proof.Xattn.Row
@[expose] public section
namespace Cert.Xattn
open Idealize.ShloMosaic

/-! The two facts that make the kernel's and the reference's forms equal: the softmax in base two with the
division after the value product, and the sigmoid in base two; and the finiteness they need. -/

/-- A non-negative real goes through a sum of extended reals. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem negInf : Ideal.ofBits .f32 4286578688#32 = ⊥ := by simp [Ideal.ofBits, Ideal.ieee]
theorem sixteenth : Ideal.ofBits .f32 1031798784#32 = ((1 / 16 : ℝ) : EReal) := by
  simp [Ideal.ofBits, Ideal.ieee]; norm_num [zpow_neg]; rw [← EReal.coe_mul]; norm_num
theorem thousand : Ideal.ofBits .f32 1149239296#32 = ((1024 : ℝ) : EReal) := by
  simp [Ideal.ofBits, Ideal.ieee]; norm_num [zpow_neg]; rw [← EReal.coe_mul]; norm_num
theorem eps_pos : ∃ e : ℝ, 0 < e ∧ Ideal.ofBits .f32 897988541#32 = (e : EReal) := by
  refine ⟨_, ?_, by simp [Ideal.ofBits, Ideal.ieee]; rfl⟩
  positivity

theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]
theorem div_one_coe (b : ℝ) (hb : 0 < b) : Ideal.div 1 (b : EReal) = ((1 / b : ℝ) : EReal) := div_coe 1 b hb

/-- The largest of finitely many reals is one of them, and none is larger. -/
theorem top_eq (σ : Fin 256 → ℝ) (M : ℝ) (hM : ∃ m, σ m = M) (hle : ∀ m, σ m ≤ M) : top (fun m => (σ m : EReal)) = (M : EReal) := by
  unfold top
  rw [negInf]
  apply le_antisymm
  · refine (Finset.fold_max_le _).2 ⟨bot_le, fun m _ => EReal.coe_le_coe_iff.2 (hle m)⟩
  · obtain ⟨m, rfl⟩ := hM
    exact (Finset.le_fold_max _).2 (Or.inr ⟨m, Finset.mem_univ _, le_rfl⟩)

/-- Two to the power `x / ln 2` is the exponential. -/
theorem exp2_coe_log (x : ℝ) : Ideal.exp2 ((x * (Real.log 2)⁻¹ : ℝ) : EReal) = ((Real.exp x : ℝ) : EReal) := by
  have h : Real.log 2 ≠ 0 := (Real.log_pos (by norm_num)).ne'
  rw [Ideal.exp2_coe]
  show ((2 ^ (x * (Real.log 2)⁻¹) : ℝ) : EReal) = _
  rw [Real.rpow_def_of_pos (by norm_num), mul_comm x, mul_inv_cancel_left₀ h]

/-- On real scores the kernel's attention (scores in units of `ln 2`, normalised last) is the plain softmax average. -/
theorem attK_eq (σ : Fin 256 → ℝ) (v : Fin 256 → EReal) :
    attK (fun m => ((σ m * (Real.log 2)⁻¹ : ℝ) : EReal)) v
      = ∑ m, v m * Ideal.div (Ideal.exp ((σ m : EReal) - max (Ideal.ofBits .f32 4286578688#32) (top fun m => (σ m : EReal))))
          (∑ n, Ideal.exp ((σ n : EReal) - max (Ideal.ofBits .f32 4286578688#32) (top fun m => (σ m : EReal)))) := by
  obtain ⟨m₀, -, hm₀⟩ := Finset.exists_max_image (Finset.univ : Finset (Fin 256)) σ ⟨0, Finset.mem_univ _⟩
  have hl : 0 < (Real.log 2)⁻¹ := inv_pos.2 (Real.log_pos (by norm_num))
  have t1 : top (fun m => (σ m : EReal)) = (σ m₀ : EReal) := top_eq σ _ ⟨m₀, rfl⟩ fun m => hm₀ m (Finset.mem_univ _)
  have t2 : top (fun m => ((σ m * (Real.log 2)⁻¹ : ℝ) : EReal)) = ((σ m₀ * (Real.log 2)⁻¹ : ℝ) : EReal) :=
    top_eq (fun m => σ m * (Real.log 2)⁻¹) _ ⟨m₀, rfl⟩ fun m => mul_le_mul_of_nonneg_right (hm₀ m (Finset.mem_univ _)) hl.le
  unfold attK
  rw [t1, t2, negInf, max_eq_right bot_le]
  have e1 : ∀ m, FloatOps.exp2 (F := Ideal) (φ := .f32) (((σ m * (Real.log 2)⁻¹ : ℝ) : EReal) - ((σ m₀ * (Real.log 2)⁻¹ : ℝ) : EReal)) = ((Real.exp (σ m - σ m₀) : ℝ) : EReal) := fun m => by
    rw [← EReal.coe_sub, ← sub_mul]; exact exp2_coe_log _
  have e2 : ∀ m, Ideal.exp ((σ m : EReal) - (σ m₀ : EReal)) = ((Real.exp (σ m - σ m₀) : ℝ) : EReal) := fun m => by
    rw [← EReal.coe_sub]; rfl
  simp only [e1, e2, coe_sum]
  have hL : 0 < ∑ m, Real.exp (σ m - σ m₀) := Finset.sum_pos (fun m _ => Real.exp_pos _) ⟨0, Finset.mem_univ _⟩
  rw [div_one_coe _ hL, mul_comm, coe_mul_sum _ _ (by positivity)]
  refine Finset.sum_congr rfl fun m _ => ?_
  rw [div_coe _ _ hL, ← mul_assoc, ← EReal.coe_mul, mul_comm (v m), one_div, inv_mul_eq_div]

/-- The kernel's gate is the plain one. -/
theorem gateK_eq (a b : EReal) : gateK (((-((Real.log 2)⁻¹) : ℝ)) : EReal) a b = a * Ideal.div 1 (1 + Ideal.exp (-a)) * b := by
  have hl : 0 < (Real.log 2)⁻¹ := inv_pos.2 (Real.log_pos (by norm_num))
  have e : FloatOps.exp2 (F := Ideal) (φ := .f32) (a * ((-((Real.log 2)⁻¹) : ℝ) : EReal)) = Ideal.exp (-a) := by
    induction a with
    | bot => rw [EReal.bot_mul_coe_of_neg (neg_neg_iff_pos.2 hl)]; rfl
    | top => rw [EReal.top_mul_coe_of_neg (neg_neg_iff_pos.2 hl)]; rfl
    | coe r =>
      rw [← EReal.coe_mul, mul_neg, ← neg_mul]; exact exp2_coe_log (-r)
  unfold gateK
  rw [e]

/-- Of real rows, gains, weights and keys the normed row, its projection and the scores are real. -/
theorem nrm_real (x g : Fin 1024 → ℝ) : ∃ y : Fin 1024 → ℝ, ∀ k, nrm (fun k => (x k : EReal)) (fun k => (g k : EReal)) k = (y k : EReal) := by
  obtain ⟨e, he, hb⟩ := eps_pos
  have hs : 0 ≤ ∑ k, x k * x k := Finset.sum_nonneg fun k _ => mul_self_nonneg _
  have hp : 0 < (∑ k, x k * x k) / 1024 + e := by positivity
  have hr : rs (fun k => (x k : EReal)) = (((Real.sqrt ((∑ k, x k * x k) / 1024 + e))⁻¹ : ℝ) : EReal) := by
    unfold rs
    simp only [← EReal.coe_mul, coe_sum]
    rw [thousand, hb, div_coe _ _ (by norm_num), ← EReal.coe_add]
    show (if _ < (0 : ℝ) then _ else if _ = (0 : ℝ) then _ else _) = _
    rw [if_neg hp.le.not_gt, if_neg hp.ne']
  refine ⟨fun k => x k * (Real.sqrt ((∑ k, x k * x k) / 1024 + e))⁻¹ * g k, fun k => ?_⟩
  unfold nrm
  rw [hr, ← EReal.coe_mul, ← EReal.coe_mul]

theorem mm_real {a b : Nat} (u : Fin a → ℝ) (w : Fin a → Fin b → ℝ) (c : Fin b) :
    mm (fun k => (u k : EReal)) (fun k c => (w k c : EReal)) c = ((∑ k, u k * w k c : ℝ) : EReal) := by
  unfold mm; simp only [← EReal.coe_mul, coe_sum]

theorem score_real (q : Fin 1024 → ℝ) (kt : Fin 1024 → Fin 256 → ℝ) (h : Fin 4) (m : Fin 256) :
    score (fun k => (q k : EReal)) (fun k m => (kt k m : EReal)) h m = ((∑ d, q (col h d) * kt (col h d) m : ℝ) : EReal) := by
  unfold score; simp only [← EReal.coe_mul, coe_sum]

/-- A value that is neither infinity is a real. -/
theorem real_of_abs {a : EReal} (h : max a (-a) < ⊤) : ∃ r : ℝ, a = (r : EReal) := by
  induction a with
  | bot => simp at h
  | top => simp at h
  | coe r => exact ⟨r, rfl⟩

end Cert.Xattn
end
-- ==== Proof.Xattn.Equal.lean ====
module
public import proofs.«01_k».proof.Proof.Xattn.Final
public import proofs.«01_k».proof.Proof.Xattn.Ref
public import proofs.«01_k».proof.Proof.Xattn.Math
public import proofs.«01_k».proof.Proof.Gen.Pre_queries_finite
@[expose] public section
set_option maxRecDepth 16384
noncomputable section
namespace Cert.Xattn
open Cert.KernelIdeal Cert.KernelIdeal.Gen Idealize.ShloMosaic Idealize.ShloMosaic.TcCoe

/-! The kernel's result is the reference's wherever the residual, the keys, the norm's gain and the query weight are finite. -/

theorem posInf : Ideal.ofBits .f32 2139095040#32 = ⊤ := by simp [Ideal.ofBits, Ideal.ieee]

theorem real_of_cmp {a : EReal} (h : Ideal.cmp (.olt) (max a (-a)) (Ideal.ofBits .f32 2139095040#32) = 1#1) : ∃ r : ℝ, a = (r : EReal) := by
  rw [posInf] at h
  apply real_of_abs
  by_contra hn
  simp [Ideal.cmp, hn] at h

theorem nl2e_eq : nl2e = ((-((Real.log 2)⁻¹) : ℝ) : EReal) := IdealRules.named_const.ideal_named_scalar _ _ _ _ rfl

variable (a0 : Vec Ideal S8x4096x1024 .f32) (a1 : Vec Ideal S8x1024x256 .bf16) (a2 : Vec Ideal S8x256x1024 .bf16)
    (a3 a4 : Vec Ideal S1x1024 .f32) (a5 a6 : Vec Ideal S1024x1024 .bf16) (a7 a8 : Vec Ideal S1x1024 .f32)
    (a9 a10 : Vec Ideal S1024x2816 .bf16) (a11 : Vec Ideal S2816x1024 .bf16)

/-- One head's attention on a row of real queries and keys. -/
theorem att_eq (q : Fin 1024 → ℝ) (kt : Fin 1024 → Fin 256 → ℝ) (h : Fin 4) (v : Fin 256 → EReal) :
    attK (score (fun k => ((q k * ((1 / 16) * (Real.log 2)⁻¹) : ℝ) : EReal)) (fun k m => (kt k m : EReal)) h) v
      = Ref.attR (Ref.scoreR (fun k => (q k : EReal)) (fun k m => (kt k m : EReal)) h) v := by
  have e : score (fun k => ((q k * ((1 / 16) * (Real.log 2)⁻¹) : ℝ) : EReal)) (fun k m => (kt k m : EReal)) h
      = fun m => (((∑ d, q (col h d) * kt (col h d) m) * (1 / 16) * (Real.log 2)⁻¹ : ℝ) : EReal) := funext fun m => by
    rw [score_real, Finset.sum_mul, Finset.sum_mul]
    congr 1
    exact Finset.sum_congr rfl fun d _ => by ring
  have e' : Ref.scoreR (fun k => (q k : EReal)) (fun k m => (kt k m : EReal)) h
      = fun m => (((∑ d, q (col h d) * kt (col h d) m) * (1 / 16) : ℝ) : EReal) := funext fun m => by
    unfold Ref.scoreR
    rw [score_real, sixteenth, ← EReal.coe_mul]
  rw [e, e', attK_eq]
  rfl

theorem ffn_eq (x g7 g8 : Fin 1024 → EReal) (wg wu : Fin 1024 → Fin 2816 → EReal) (wd : Fin 2816 → Fin 1024 → EReal) :
    ffnK x g7 g8 wg wu wd = Ref.ffnR x g7 g8 wg wu wd := by
  unfold ffnK Ref.ffnR
  simp only [nl2e_eq, gateK_eq]
  rfl

theorem G_eq (h0 : ∀ i, ∃ r : ℝ, a0 i = (r : EReal)) (h1 : ∀ i, ∃ r : ℝ, a1 i = (r : EReal)) (h3 : ∀ i, ∃ r : ℝ, a3 i = (r : EReal))
    (h5 : ∀ i, ∃ r : ℝ, a5 i = (r : EReal)) :
    G a0 a1 a2 a3 a4 a5 a6 a7 a8 a9 a10 a11 = Cert.ReferenceIdeal.Read.val_main_v92 a0 a1 a2 a3 a4 a5 a6 a7 a8 a9 a10 a11 := by
  choose f0 h0 using h0
  choose f1 h1 using h1
  choose f3 h3 using h3
  choose f5 h5 using h5
  funext i
  obtain ⟨b, r, k, rfl⟩ : ∃ (b : Fin 8) (r : Fin 4096) (k : Fin 1024), i = ix3 b r k := ⟨i 0, i 1, i 2, ValueIdx.eq_ix3 i⟩
  refine Eq.trans ?_ (Ref.out_at a0 a1 a2 a3 a4 a5 a6 a7 a8 a9 a10 a11 b r k).symm
  show outRow a0 a1 a2 a3 a4 a5 a6 a7 a8 a9 a10 a11 b r k = _
  obtain ⟨y, hy⟩ := nrm_real (fun k => f0 (ix3 b r k)) (fun k => f3 (ix2 0 k))
  have hm : ∀ c, mm (nrm (fun k => a0 (ix3 b r k)) (fun k => a3 (ix2 0 k))) (fun k c => a5 (ix2 k c)) c
      = ((∑ k, y k * f5 (ix2 k c) : ℝ) : EReal) := fun c => by
    simp only [h0, h3, h5]
    rw [show nrm (fun k => (f0 (ix3 b r k) : EReal)) (fun k => (f3 (ix2 0 k) : EReal)) = fun k => (y k : EReal) from funext hy]
    exact mm_real y (fun k c => f5 (ix2 k c)) c
  have hq : qK (fun k => a0 (ix3 b r k)) (gain a3) (fun k c => a5 (ix2 k c))
      = fun c => (((∑ k, y k * f5 (ix2 k c)) * ((1 / 16) * (Real.log 2)⁻¹) : ℝ) : EReal) := funext fun c => by
    unfold qK
    rw [IdealRules.named_const.ideal_named_scalar _ _ _ (((1 / 16) * (Real.log 2)⁻¹ : ℝ) : EReal) rfl]
    exact (congrArg (· * _) (hm c)).trans (EReal.coe_mul _ _).symm
  have hk : (fun (k : Fin 1024) (m : Fin 256) => a1 (ix3 b k m)) = fun k m => (f1 (ix3 b k m) : EReal) := funext fun k => funext fun m => h1 _
  unfold outRow
  rw [hq, hk, ffn_eq, show mm (nrm (fun k => a0 (ix3 b r k)) (fun k => a3 (ix2 0 k))) (fun k c => a5 (ix2 k c)) = _ from funext hm]
  simp only [att_eq (fun c => ∑ k, y k * f5 (ix2 k c)) (fun k m => f1 (ix3 b k m))]
  rfl

/-! ### The precondition -/

section Pre
variable [Cert.Pre_queries_finite.Facts]

theorem pre0 (h : (Cert.Pre_queries_finite.fn (F := Ideal) a0 a1 a2 a3 a4 a5 a6 a7 a8 a9 a10 a11).1 = fun _ => 1#1) (i : S8x4096x1024.Idx) : ∃ r : ℝ, a0 i = (r : EReal) := real_of_cmp (congrFun h i)
theorem pre1 (h : (Cert.Pre_queries_finite.fn (F := Ideal) a0 a1 a2 a3 a4 a5 a6 a7 a8 a9 a10 a11).2.1 = fun _ => 1#1) (i : S8x1024x256.Idx) : ∃ r : ℝ, a1 i = (r : EReal) := real_of_cmp (congrFun h i)
theorem pre3 (h : (Cert.Pre_queries_finite.fn (F := Ideal) a0 a1 a2 a3 a4 a5 a6 a7 a8 a9 a10 a11).2.2.1 = fun _ => 1#1) (i : S1x1024.Idx) : ∃ r : ℝ, a3 i = (r : EReal) := real_of_cmp (congrFun h i)
theorem pre5 (h : (Cert.Pre_queries_finite.fn (F := Ideal) a0 a1 a2 a3 a4 a5 a6 a7 a8 a9 a10 a11).2.2.2 = fun _ => 1#1) (i : S1024x1024.Idx) : ∃ r : ℝ, a5 i = (r : EReal) := real_of_cmp (congrFun h i)
end Pre

end Cert.Xattn
end
-- ==== Proof.Xattn.Claims.lean ====
module
public import proofs.«01_k».proof.Defs
public import proofs.«01_k».proof.Proof.Xattn.Equal
@[expose] public section
set_option maxRecDepth 16384
noncomputable section
namespace Cert.Xattn
open Idealize.ShloMosaic Idealize.ShloMosaic.TcCoe Idealize.SL.Sem

/-- The reference runs and leaves its arguments. -/
theorem frame_r : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- From memories agreeing on the arguments, of which those the scores are made of are finite, both end with the same result. -/
theorem algebraic : Cert.algebraic_KernelIdeal_ReferenceIdeal_pre_queries_finite := fun m ρ m' ρ' hpre hm => by
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    (θ_run Cert.KernelIdeal.defs _ _).mono (fun _ h c => ⟨(h c).1.trans (final m c), (h c).2⟩) (Cert.KernelIdeal.Value.run_blocks m ρ),
    (θ_run Cert.ReferenceIdeal.defs _ _).mono
      (fun _ h c => ⟨((h c).1.trans (Cert.ReferenceIdeal.Read.val_main_v92_eq (StableHlo.launchContents m' c))).trans ?_, (h c).2⟩)
      (Cert.ReferenceIdeal.Value.run m' ρ')⟩
  obtain ⟨e0, e1, e2, e3, e4, e5, e6, e7, e8, e9, e10, e11⟩ := hm c
  obtain ⟨p0, p1, p3, p5⟩ := hpre c
  refine Eq.trans ?_ (G_eq _ _ _ _ _ _ _ _ _ _ _ _ (pre0 _ _ _ _ _ _ _ _ _ _ _ _ p0) (pre1 _ _ _ _ _ _ _ _ _ _ _ _ p1) (pre3 _ _ _ _ _ _ _ _ _ _ _ _ p3) (pre5 _ _ _ _ _ _ _ _ _ _ _ _ p5)).symm
  rw [← e0, ← e1, ← e2, ← e3, ← e4, ← e5, ← e6, ← e7, ← e8, ← e9, ← e10, ← e11]

/-- The two named constants are what the rewritten program reads. -/
theorem preserves : Cert.preserves_Kernel_KernelIdeal :=
  ⟨IdealRules.named_const.statement _ _ _ _ _ rfl, IdealRules.named_const.statement _ _ _ _ _ rfl⟩

end Cert.Xattn
end
-- ==== Proof.MemKv.Blk.lean ====
module
public import proofs.«01_k».proof.Proof.Gen.MemKvIdeal.Value
public import Idealize.ShloMosaic.Lib.Pipeline.ValueKit.Acc
public import proofs.«01_k».proof.Proof.Xattn.Row
@[expose] public section
set_option maxRecDepth 16384
noncomputable section
namespace Cert.MemKv.Val
open Cert.MemKvIdeal Cert.MemKvIdeal.Gen Cert.MemKvIdeal.Value Idealize.ShloMosaic Idealize.ShloMosaic.TcCoe Idealize.SL.Sem

/-! What a grid point leaves in each output block and in the two weight scratches, as the kernel's own values. -/

section
variable (c : Dev nD) (i : grid0.Coords) (arg1 : Memref sig .tc .vmem S1x256x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S128x2816 .f32) (harg5 : arg5.IsWhole) (arg6 : Memref sig .tc .vmem S128x1024 .f32) (harg6 : arg6.IsWhole) (arg7 : Memref sig .tc .vmem S1x1024x256 .bf16) (harg7 : arg7.IsWhole) (arg8 : Memref sig .tc .vmem S1x256x1024 .bf16) (harg8 : arg8.IsWhole) (arg9 : Memref sig .tc .vmem S128x2816 .bf16) (harg9 : arg9.IsWhole) (arg10 : Memref sig .tc .vmem S128x1024 .bf16) (harg10 : arg10.IsWhole) (arg11 : Memref sig .tc .vmem S1024x1024 .bf16) (harg11 : arg11.IsWhole) (arg12 : Memref sig .tc .vmem S1024x1024 .bf16) (harg12 : arg12.IsWhole)
  (x0 : Vec Ideal S1x256x1024 .f32) (x1 : Vec Ideal S1x1024 .f32) (x2 x3 : Vec Ideal S1024x1024 .f32) (x4 : Vec Ideal S128x2816 .f32) (x5 : Vec Ideal S128x1024 .f32)
  (s0 s1 : Vec Ideal S1024x1024 .bf16)

theorem outA6 (hc0 : cond0_0 i) : out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay1 (k0_pay8 x0 x1 (k0_pay3 x2)) := by
  frame_out
theorem outA7 (hc0 : cond0_0 i) : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay2 (k0_pay7 x0 x1) (k0_pay4 x3) := by
  frame_out
theorem outA8 (hc0 : cond0_0 i) : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay5 x4 := by
  frame_out
theorem outA9 (hc0 : cond0_0 i) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay6 x5 := by
  frame_out
theorem outSA0 (hc0 : cond0_0 i) : sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay3 x2 := by
  frame_out
theorem outSA1 (hc0 : cond0_0 i) : sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 = k0_pay4 x3 := by
  frame_out
theorem outB6 (hc0 : ¬cond0_0 i) : out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 s0 s1 = k0_pay1 (k0_pay8 x0 x1 s0) := by
  frame_out
theorem outB7 (hc0 : ¬cond0_0 i) : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 s0 s1 = k0_pay2 (k0_pay7 x0 x1) s1 := by
  frame_out
theorem outB8 (hc0 : ¬cond0_0 i) : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 s0 s1 = k0_pay5 x4 := by
  frame_out
theorem outB9 (hc0 : ¬cond0_0 i) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 s0 s1 = k0_pay6 x5 := by
  frame_out
end
end Cert.MemKv.Val
end
-- ==== Proof.MemKv.Final.lean ====
module
public import proofs.«01_k».proof.Proof.MemKv.Blk
public import proofs.«01_k».proof.Proof.Gen.MemKvReferenceIdeal.Read
@[expose] public section
set_option maxRecDepth 16384
noncomputable section
namespace Cert.MemKv.Val
open Cert.MemKvIdeal Cert.MemKvIdeal.Gen Cert.MemKvIdeal.Value Idealize.ShloMosaic Idealize.ShloMosaic.TcCoe Idealize.SL.Sem
open Cert.Xattn (nrm mm rs)

/-! The four result arrays of the memory's keys and values, as functions of the arguments. -/

/-- The keys, transposed: entry `(k, d)` is column `k` of memory row `d`'s projection. -/
def KT (a0 : Vec Ideal S8x256x1024 .f32) (a1 : Vec Ideal S1x1024 .f32) (a2 : Vec Ideal S1x1024x1024 .f32) : Vec Ideal S8x1024x256 .bf16 :=
  fun i => mm (nrm (fun k => a0 (ix3 (i 0) (i 2) k)) (fun k => a1 (ix2 0 k))) (fun k c => a2 (ix3 0 k c)) (i 1)
/-- The values. -/
def VV (a0 : Vec Ideal S8x256x1024 .f32) (a1 : Vec Ideal S1x1024 .f32) (a3 : Vec Ideal S1x1024x1024 .f32) : Vec Ideal S8x256x1024 .bf16 :=
  fun i => mm (nrm (fun k => a0 (ix3 (i 0) (i 1) k)) (fun k => a1 (ix2 0 k))) (fun k c => a3 (ix3 0 k c)) (i 2)
/-- The two weights that are only cast. -/
def WU (a4 : Vec Ideal S1x1024x2816 .f32) : Vec Ideal S1024x2816 .bf16 := fun i => a4 (ix3 0 (i 0) (i 1))
def WO (a5 : Vec Ideal S1x1024x1024 .f32) : Vec Ideal S1024x1024 .bf16 := fun i => a5 (ix3 0 (i 0) (i 1))

section Pay
variable (x0 : Vec Ideal S1x256x1024 .f32) (x1 : Vec Ideal S1x1024 .f32) (w : Vec Ideal S1024x1024 .bf16) (d : Fin 256) (k : Fin 1024)

theorem pay3_eq (x : Vec Ideal S1024x1024 .f32) : k0_pay3 (F := Ideal) x = x := by
  funext j
  obtain ⟨a, b, rfl⟩ : ∃ a b : Fin 1024, j = ix2 a b := ⟨j 0, j 1, ValueIdx.eq_ix2 j⟩
  pointwise [k0_pay3]
theorem pay4_eq (x : Vec Ideal S1024x1024 .f32) : k0_pay4 (F := Ideal) x = x := by
  funext j
  obtain ⟨a, b, rfl⟩ : ∃ a b : Fin 1024, j = ix2 a b := ⟨j 0, j 1, ValueIdx.eq_ix2 j⟩
  pointwise [k0_pay4]
theorem pay5_eq (x : Vec Ideal S128x2816 .f32) : k0_pay5 (F := Ideal) x = x := by
  funext j
  obtain ⟨a, b, rfl⟩ : ∃ (a : Fin 128) (b : Fin 2816), j = ix2 a b := ⟨j 0, j 1, ValueIdx.eq_ix2 j⟩
  pointwise [k0_pay5]
theorem pay6_eq (x : Vec Ideal S128x1024 .f32) : k0_pay6 (F := Ideal) x = x := by
  funext j
  obtain ⟨a, b, rfl⟩ : ∃ (a : Fin 128) (b : Fin 1024), j = ix2 a b := ⟨j 0, j 1, ValueIdx.eq_ix2 j⟩
  pointwise [k0_pay6]
theorem key_at : k0_pay1 (k0_pay8 x0 x1 w) (ix3 0 k d) = mm (nrm (fun k => x0 (ix3 0 d k)) (fun k => x1 (ix2 0 k))) (fun k c => w (ix2 k c)) k := by
  pointwise [k0_pay1, k0_pay8, k0_pay7]
  rfl
theorem value_at : k0_pay2 (k0_pay7 x0 x1) w (ix3 0 d k) = mm (nrm (fun k => x0 (ix3 0 d k)) (fun k => x1 (ix2 0 k))) (fun k c => w (ix2 k c)) k := by
  pointwise [k0_pay2, k0_pay7]
  rfl
end Pay

section Ref
open Cert.MemKvReferenceIdeal.Read
theorem KT_eq (a0 : Vec Ideal S8x256x1024 .f32) (a1 : Vec Ideal S1x1024 .f32) (a2 : Vec Ideal S1x1024x1024 .f32) :
    val_main_v19 (F := Ideal) a0 a1 a2 = KT a0 a1 a2 := by
  funext i
  obtain ⟨b, k, d, rfl⟩ : ∃ (b : Fin 8) (k : Fin 1024) (d : Fin 256), i = ix3 b k d := ⟨i 0, i 1, i 2, ValueIdx.eq_ix3 i⟩
  pointwise [val_main_v19, val_main_v18, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl
theorem VV_eq (a0 : Vec Ideal S8x256x1024 .f32) (a1 : Vec Ideal S1x1024 .f32) (a3 : Vec Ideal S1x1024x1024 .f32) :
    val_main_v20 (F := Ideal) a0 a1 a3 = VV a0 a1 a3 := by
  funext i
  obtain ⟨b, d, k, rfl⟩ : ∃ (b : Fin 8) (d : Fin 256) (k : Fin 1024), i = ix3 b d k := ⟨i 0, i 1, i 2, ValueIdx.eq_ix3 i⟩
  pointwise [val_main_v20, val_main_v18, val_main_v17, val_main_v16, val_main_v15, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl
theorem WU_eq (a4 : Vec Ideal S1x1024x2816 .f32) : val_main_v22 (F := Ideal) a4 = WU a4 := by
  funext i
  obtain ⟨a, b, rfl⟩ : ∃ (a : Fin 1024) (b : Fin 2816), i = ix2 a b := ⟨i 0, i 1, ValueIdx.eq_ix2 i⟩
  pointwise [val_main_v22, val_main_v21]
  rfl
theorem WO_eq (a5 : Vec Ideal S1x1024x1024 .f32) : val_main_v24 (F := Ideal) a5 = WO a5 := by
  funext i
  obtain ⟨a, b, rfl⟩ : ∃ a b : Fin 1024, i = ix2 a b := ⟨i 0, i 1, ValueIdx.eq_ix2 i⟩
  pointwise [val_main_v24, val_main_v23]
  rfl
end Ref

variable (m : (ℓ : Loc nD τ sig) → Buf (Elt Ideal) ℓ) (ρ : Dev nD → PrngReg)

/-! The arrays the region finds, an index of the argument behind each. -/
theorem V_gain (c : Dev nD) (k : Fin 1024) : V m c main_v3 (ix2 (n0 := 1) (n1 := 1024) 0 k) = m ((c : Thread nD τ).loc main_arg1) (ix2 (n0 := 1) (n1 := 1024) 0 k) := by
  have e : V m c main_v3 = shapeCast S1x1024 (shapeCast S1024 (m ((c : Thread nD τ).loc main_arg1)) shapeCasts_S1x1024_S1024) shapeCasts_S1024_S1x1024 := by
    show StableHlo.after hostOps0 _ (Proc.devRef .tc main_v3) = _
    after_results
    rfl
  rw [e]
  generalize m ((c : Thread nD τ).loc main_arg1) = x
  pointwise
theorem square_at (x : Vec Ideal S1x1024x1024 .f32) (a b : Fin 1024) : shapeCast S1024x1024 x shapeCasts_S1x1024x1024_S1024x1024 (ix2 a b) = x (ix3 0 a b) := by
  pointwise
theorem wide_at (x : Vec Ideal S1x1024x2816 .f32) (a : Fin 1024) (b : Fin 2816) : shapeCast S1024x2816 x shapeCasts_S1x1024x2816_S1024x2816 (ix2 a b) = x (ix3 0 a b) := by
  pointwise
theorem V_wk (c : Dev nD) : V m c main_v4 = shapeCast S1024x1024 (m ((c : Thread nD τ).loc main_arg2)) shapeCasts_S1x1024x1024_S1024x1024 := by
  show StableHlo.after hostOps0 _ (Proc.devRef .tc main_v4) = _
  after_results
  rfl
theorem V_wk_at (c : Dev nD) (a : Fin 1024) (b : Fin 1024) : (V m c main_v4 : Vec Ideal S1024x1024 .f32) (ix2 a b) = (m ((c : Thread nD τ).loc main_arg2) : Vec Ideal S1x1024x1024 .f32) (ix3 0 a b) :=
  (congrFun (V_wk m c) (ix2 (n0 := 1024) (n1 := 1024) a b)).trans (square_at _ a b)
theorem V_wv (c : Dev nD) : V m c main_v5 = shapeCast S1024x1024 (m ((c : Thread nD τ).loc main_arg3)) shapeCasts_S1x1024x1024_S1024x1024 := by
  show StableHlo.after hostOps0 _ (Proc.devRef .tc main_v5) = _
  after_results
  rfl
theorem V_wv_at (c : Dev nD) (a : Fin 1024) (b : Fin 1024) : (V m c main_v5 : Vec Ideal S1024x1024 .f32) (ix2 a b) = (m ((c : Thread nD τ).loc main_arg3) : Vec Ideal S1x1024x1024 .f32) (ix3 0 a b) :=
  (congrFun (V_wv m c) (ix2 (n0 := 1024) (n1 := 1024) a b)).trans (square_at _ a b)
theorem V_wu (c : Dev nD) : V m c main_v0 = shapeCast S1024x2816 (m ((c : Thread nD τ).loc main_arg4)) shapeCasts_S1x1024x2816_S1024x2816 := by
  show StableHlo.after hostOps0 _ (Proc.devRef .tc main_v0) = _
  after_results
  rfl
theorem V_wu_at (c : Dev nD) (a : Fin 1024) (b : Fin 2816) : (V m c main_v0 : Vec Ideal S1024x2816 .f32) (ix2 a b) = (m ((c : Thread nD τ).loc main_arg4) : Vec Ideal S1x1024x2816 .f32) (ix3 0 a b) :=
  (congrFun (V_wu m c) (ix2 (n0 := 1024) (n1 := 2816) a b)).trans (wide_at _ a b)
theorem V_wo (c : Dev nD) : V m c main_v1 = shapeCast S1024x1024 (m ((c : Thread nD τ).loc main_arg5)) shapeCasts_S1x1024x1024_S1024x1024 := by
  show StableHlo.after hostOps0 _ (Proc.devRef .tc main_v1) = _
  after_results
  rfl
theorem V_wo_at (c : Dev nD) (a : Fin 1024) (b : Fin 1024) : (V m c main_v1 : Vec Ideal S1024x1024 .f32) (ix2 a b) = (m ((c : Thread nD τ).loc main_arg5) : Vec Ideal S1x1024x1024 .f32) (ix3 0 a b) :=
  (congrFun (V_wo m c) (ix2 (n0 := 1024) (n1 := 1024) a b)).trans (square_at _ a b)

/-! The windows' blocks. -/
theorem idx : ∀ t : Fin cfg0.N, win0_0.index t (0 : Fin 3) = t.val ∧ win0_0.index t (1 : Fin 3) = 0 ∧ win0_0.index t (2 : Fin 3) = 0
    ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)
theorem idx_whole : ∀ t : Fin cfg0.N, ∀ a : Fin 2, win0_1.index t a = 0 ∧ win0_2.index t a = 0 ∧ win0_3.index t a = 0 :=
  (by decide +kernel : ∀ t : Fin grid0.N, _)
theorem idx_out : ∀ t : Fin cfg0.N, win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0
    ∧ win0_8.index t (0 : Fin 2) = t.val ∧ win0_8.index t (1 : Fin 2) = 0 ∧ win0_9.index t (0 : Fin 2) = t.val ∧ win0_9.index t (1 : Fin 2) = 0 :=
  (by decide +kernel : ∀ t : Fin grid0.N, _)

/-- The batch of a point, and a row of its slab of a weight. -/
def bOf (t : Fin cfg0.N) : Fin 8 := ⟨t.val, lt_of_lt_of_eq t.isLt N_0⟩
def rOf (t : Fin cfg0.N) (r : Fin 128) : Fin 1024 := ⟨t.val * 128 + r.val, by have := lt_of_lt_of_eq t.isLt N_0; omega⟩

theorem iblk1_eq (c : Dev nD) (t : Fin cfg0.N) : iblk m c 1 t = V m c main_v3 := by
  have e0 := (idx_whole t 0).1
  have e1 := (idx_whole t 1).1
  funext j; show V m c main_v3 (((cfg0.win 1).blk t).view.emb j) = V m c main_v3 j
  congr 1; funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem iblk2_eq (c : Dev nD) (t : Fin cfg0.N) : iblk m c 2 t = V m c main_v4 := by
  have e0 := (idx_whole t 0).2.1
  have e1 := (idx_whole t 1).2.1
  funext j; show V m c main_v4 (((cfg0.win 2).blk t).view.emb j) = V m c main_v4 j
  congr 1; funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = (j 1).val; omega
theorem iblk3_eq (c : Dev nD) (t : Fin cfg0.N) : iblk m c 3 t = V m c main_v5 := by
  have e0 := (idx_whole t 0).2.2
  have e1 := (idx_whole t 1).2.2
  funext j; show V m c main_v5 (((cfg0.win 3).blk t).view.emb j) = V m c main_v5 j
  congr 1; funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega
theorem iblk0_at (c : Dev nD) (t : Fin cfg0.N) (d : Fin 256) (k : Fin 1024) :
    iblk m c 0 t (ix3 (n0 := 1) (n1 := 256) (n2 := 1024) 0 d k) = V m c main_arg0 (ix3 (bOf t) d k) := by
  obtain ⟨e0, e1, e2, -⟩ := idx t
  show V m c main_arg0 (((cfg0.win 0).blk t).view.emb (ix3 (n0 := 1) (n1 := 256) (n2 := 1024) 0 d k)) = _
  congr 1; funext a; apply Fin.ext
  match a with
  | ⟨0, _⟩ => show win0_0.index t (0 : Fin 3) * 1 + 1 * 0 = t.val; omega
  | ⟨1, _⟩ => show win0_0.index t (1 : Fin 3) * 256 + 1 * d.val = d.val; omega
  | ⟨2, _⟩ => show win0_0.index t (2 : Fin 3) * 1024 + 1 * k.val = k.val; omega
theorem iblk4_at (c : Dev nD) (t : Fin cfg0.N) (r : Fin 128) (k : Fin 2816) :
    iblk m c 4 t (ix2 (n0 := 128) (n1 := 2816) r k) = V m c main_v0 (ix2 (rOf t r) k) := by
  obtain ⟨-, -, -, e0, e1, -⟩ := idx t
  show V m c main_v0 (((cfg0.win 4).blk t).view.emb (ix2 (n0 := 128) (n1 := 2816) r k)) = _
  congr 1; funext a; apply Fin.ext
  match a with
  | ⟨0, _⟩ => show win0_4.index t (0 : Fin 2) * 128 + 1 * r.val = t.val * 128 + r.val; omega
  | ⟨1, _⟩ => show win0_4.index t (1 : Fin 2) * 2816 + 1 * k.val = k.val; omega
theorem iblk5_at (c : Dev nD) (t : Fin cfg0.N) (r : Fin 128) (k : Fin 1024) :
    iblk m c 5 t (ix2 (n0 := 128) (n1 := 1024) r k) = V m c main_v1 (ix2 (rOf t r) k) := by
  obtain ⟨-, -, -, -, -, e0, e1⟩ := idx t
  show V m c main_v1 (((cfg0.win 5).blk t).view.emb (ix2 (n0 := 128) (n1 := 1024) r k)) = _
  congr 1; funext a; apply Fin.ext
  match a with
  | ⟨0, _⟩ => show win0_5.index t (0 : Fin 2) * 128 + 1 * r.val = t.val * 128 + r.val; omega
  | ⟨1, _⟩ => show win0_5.index t (1 : Fin 2) * 1024 + 1 * k.val = k.val; omega

/-- What every point leaves: the outputs of its blocks and of the two weights, and the weights in the scratches. -/
theorem outs_eq (c : Dev nD) : ∀ (n : Nat) (h : n < cfg0.N), outsAt0 m c n h =
    (k0_pay1 (k0_pay8 (iblk m c 0 ⟨n, h⟩) (V m c main_v3) (V m c main_v4)), k0_pay2 (k0_pay7 (iblk m c 0 ⟨n, h⟩) (V m c main_v3)) (V m c main_v5),
      iblk m c 4 ⟨n, h⟩, iblk m c 5 ⟨n, h⟩, V m c main_v4, V m c main_v5) := by
  intro n
  induction n with
  | zero =>
    intro h
    rw [outsAt0_A m c ⟨0, h⟩ (Nat.zero_mod _), outA6, outA7, outA8, outA9, outSA0, outSA1, pay3_eq, pay4_eq, pay5_eq, pay6_eq, iblk1_eq, iblk2_eq, iblk3_eq]
  | succ n ih =>
    intro h
    have hN := lt_of_lt_of_eq h N_0
    rw [outsAt0_B m c ⟨n + 1, h⟩ (by show ¬ (n + 1) % 8 = 0; omega), outB6, outB7, outB8, outB9, pay5_eq, pay6_eq, iblk1_eq]
    unfold sout0_B_0 sout0_B_1
    have e := ih (Nat.lt_of_succ_lt h)
    have e' : outsAt0 m c (n + 1 - 1) (Nat.lt_of_le_of_lt (Nat.sub_le _ _) h) = outsAt0 m c n (Nat.lt_of_succ_lt h) := rfl
    rw [e', e]

/-! Each result, assembled from the points' blocks. -/
theorem emb6 (t : Fin cfg0.N) (k : Fin 1024) (d : Fin 256) : ((cfg0.win 6).blk t).view.emb (ix3 (n0 := 1) (n1 := 1024) (n2 := 256) 0 k d) = ix3 (bOf t) k d := by
  obtain ⟨e0, e1, e2, -⟩ := idx_out t
  funext a; apply Fin.ext
  match a with
  | ⟨0, _⟩ => show win0_6.index t (0 : Fin 3) * 1 + 1 * 0 = t.val; omega
  | ⟨1, _⟩ => show win0_6.index t (1 : Fin 3) * 1024 + 1 * k.val = k.val; omega
  | ⟨2, _⟩ => show win0_6.index t (2 : Fin 3) * 256 + 1 * d.val = d.val; omega
theorem emb7 (t : Fin cfg0.N) (d : Fin 256) (k : Fin 1024) : ((cfg0.win 7).blk t).view.emb (ix3 (n0 := 1) (n1 := 256) (n2 := 1024) 0 d k) = ix3 (bOf t) d k := by
  obtain ⟨-, -, -, e0, e1, e2, -⟩ := idx_out t
  funext a; apply Fin.ext
  match a with
  | ⟨0, _⟩ => show win0_7.index t (0 : Fin 3) * 1 + 1 * 0 = t.val; omega
  | ⟨1, _⟩ => show win0_7.index t (1 : Fin 3) * 256 + 1 * d.val = d.val; omega
  | ⟨2, _⟩ => show win0_7.index t (2 : Fin 3) * 1024 + 1 * k.val = k.val; omega
theorem emb8 (t : Fin cfg0.N) (r : Fin 128) (k : Fin 2816) : ((cfg0.win 8).blk t).view.emb (ix2 (n0 := 128) (n1 := 2816) r k) = ix2 (rOf t r) k := by
  obtain ⟨-, -, -, -, -, -, e0, e1, -⟩ := idx_out t
  funext a; apply Fin.ext
  match a with
  | ⟨0, _⟩ => show win0_8.index t (0 : Fin 2) * 128 + 1 * r.val = t.val * 128 + r.val; omega
  | ⟨1, _⟩ => show win0_8.index t (1 : Fin 2) * 2816 + 1 * k.val = k.val; omega
theorem emb9 (t : Fin cfg0.N) (r : Fin 128) (k : Fin 1024) : ((cfg0.win 9).blk t).view.emb (ix2 (n0 := 128) (n1 := 1024) r k) = ix2 (rOf t r) k := by
  obtain ⟨-, -, -, -, -, -, -, -, e0, e1⟩ := idx_out t
  funext a; apply Fin.ext
  match a with
  | ⟨0, _⟩ => show win0_9.index t (0 : Fin 2) * 128 + 1 * r.val = t.val * 128 + r.val; omega
  | ⟨1, _⟩ => show win0_9.index t (1 : Fin 2) * 1024 + 1 * k.val = k.val; omega

/-- A row of the memory and the gain, as a point's norm sees them. -/
theorem row_eq (c : Dev nD) (t : Fin cfg0.N) (d : Fin 256) :
    nrm (fun k => (iblk m c 0 t : Vec Ideal S1x256x1024 .f32) (ix3 0 d k)) (fun k => (V m c main_v3 : Vec Ideal S1x1024 .f32) (ix2 0 k))
      = nrm (fun k => (m ((c : Thread nD τ).loc main_arg0) : Vec Ideal S8x256x1024 .f32) (ix3 (bOf t) d k)) (fun k => (m ((c : Thread nD τ).loc main_arg1) : Vec Ideal S1x1024 .f32) (ix2 0 k)) := by
  congr 1
  · funext k
    exact (iblk0_at m c t d k).trans (by rw [V_main_arg0])
  · funext k
    exact V_gain m c k

theorem written6 (c : Dev nD) (t : Fin cfg0.N) : (dats m 0 c).flushed 6 t = ((cfg0.win 6).blk t).view.read (Elt Ideal)
    (KT (m ((c : Thread nD τ).loc main_arg0)) (m ((c : Thread nD τ).loc main_arg1)) (m ((c : Thread nD τ).loc main_arg2))) := by
  rw [flushed6, outs_eq]
  funext j
  obtain ⟨k, d, rfl⟩ : ∃ (k : Fin 1024) (d : Fin 256), j = ix3 (n0 := 1) (n1 := 1024) (n2 := 256) 0 k d :=
    ⟨j 1, j 2, (ValueIdx.eq_ix3 j).trans (congrArg (fun a : Fin 1 => ix3 a (j 1) (j 2)) (Fin.fin_one_eq_zero _))⟩
  show k0_pay1 (F := Ideal) (k0_pay8 _ _ _) (ix3 0 k d) = KT _ _ _ (((cfg0.win 6).blk t).view.emb (ix3 (n0 := 1) (n1 := 1024) (n2 := 256) 0 k d))
  rw [emb6, key_at]
  refine (congrArg₂ (fun u w => mm u w k) (row_eq m c t d) ?_).trans rfl
  funext a b
  exact V_wk_at m c a b
theorem written7 (c : Dev nD) (t : Fin cfg0.N) : (dats m 0 c).flushed 7 t = ((cfg0.win 7).blk t).view.read (Elt Ideal)
    (VV (m ((c : Thread nD τ).loc main_arg0)) (m ((c : Thread nD τ).loc main_arg1)) (m ((c : Thread nD τ).loc main_arg3))) := by
  rw [flushed7, outs_eq]
  funext j
  obtain ⟨d, k, rfl⟩ : ∃ (d : Fin 256) (k : Fin 1024), j = ix3 (n0 := 1) (n1 := 256) (n2 := 1024) 0 d k :=
    ⟨j 1, j 2, (ValueIdx.eq_ix3 j).trans (congrArg (fun a : Fin 1 => ix3 a (j 1) (j 2)) (Fin.fin_one_eq_zero _))⟩
  show k0_pay2 (F := Ideal) (k0_pay7 _ _) _ (ix3 0 d k) = VV _ _ _ (((cfg0.win 7).blk t).view.emb (ix3 (n0 := 1) (n1 := 256) (n2 := 1024) 0 d k))
  rw [emb7, value_at]
  refine (congrArg₂ (fun u w => mm u w k) (row_eq m c t d) ?_).trans rfl
  funext a b
  exact V_wv_at m c a b
theorem written8 (c : Dev nD) (t : Fin cfg0.N) : (dats m 0 c).flushed 8 t = ((cfg0.win 8).blk t).view.read (Elt Ideal) (WU (m ((c : Thread nD τ).loc main_arg4))) := by
  rw [flushed8, outs_eq]
  funext j
  obtain ⟨r, k, rfl⟩ : ∃ (r : Fin 128) (k : Fin 2816), j = ix2 r k := ⟨j 0, j 1, ValueIdx.eq_ix2 j⟩
  show iblk m c 4 t (ix2 (n0 := 128) (n1 := 2816) r k) = WU _ (((cfg0.win 8).blk t).view.emb (ix2 (n0 := 128) (n1 := 2816) r k))
  rw [emb8]
  exact (iblk4_at m c t r k).trans (V_wu_at m c _ k)
theorem written9 (c : Dev nD) (t : Fin cfg0.N) : (dats m 0 c).flushed 9 t = ((cfg0.win 9).blk t).view.read (Elt Ideal) (WO (m ((c : Thread nD τ).loc main_arg5))) := by
  rw [flushed9, outs_eq]
  funext j
  obtain ⟨r, k, rfl⟩ : ∃ (r : Fin 128) (k : Fin 1024), j = ix2 r k := ⟨j 0, j 1, ValueIdx.eq_ix2 j⟩
  show iblk m c 5 t (ix2 (n0 := 128) (n1 := 1024) r k) = WO _ (((cfg0.win 9).blk t).view.emb (ix2 (n0 := 128) (n1 := 1024) r k))
  rw [emb9]
  exact (iblk5_at m c t r k).trans (V_wo_at m c _ k)

theorem last6 (c : Dev nD) : G6 m c = KT (m ((c : Thread nD τ).loc main_arg0)) (m ((c : Thread nD τ).loc main_arg1)) (m ((c : Thread nD τ).loc main_arg2)) :=
  (final6 m c).symm.trans ((dats m 0 c).arrAt_eq_of_cover 6 _ (fun t _ => written6 m c t) (fun i => (covered_iff6 i).2
    ⟨Nat.zero_le _, (i 0).isLt, Nat.zero_le _, (i 1).isLt, Nat.zero_le _, (i 2).isLt⟩))
theorem last7 (c : Dev nD) : G7 m c = VV (m ((c : Thread nD τ).loc main_arg0)) (m ((c : Thread nD τ).loc main_arg1)) (m ((c : Thread nD τ).loc main_arg3)) :=
  (final7 m c).symm.trans ((dats m 0 c).arrAt_eq_of_cover 7 _ (fun t _ => written7 m c t) (fun i => (covered_iff7 i).2
    ⟨Nat.zero_le _, (i 0).isLt, Nat.zero_le _, (i 1).isLt, Nat.zero_le _, (i 2).isLt⟩))
theorem last8 (c : Dev nD) : G8 m c = WU (m ((c : Thread nD τ).loc main_arg4)) :=
  (final8 m c).symm.trans ((dats m 0 c).arrAt_eq_of_cover 8 _ (fun t _ => written8 m c t) (fun i => (covered_iff8 i).2
    ⟨Nat.zero_le _, (i 0).isLt, Nat.zero_le _, (i 1).isLt⟩))
theorem last9 (c : Dev nD) : G9 m c = WO (m ((c : Thread nD τ).loc main_arg5)) :=
  (final9 m c).symm.trans ((dats m 0 c).arrAt_eq_of_cover 9 _ (fun t _ => written9 m c t) (fun i => (covered_iff9 i).2
    ⟨Nat.zero_le _, (i 0).isLt, Nat.zero_le _, (i 1).isLt⟩))

end Cert.MemKv.Val
end
-- ==== Proof.MemKv.Claims.lean ====
module
public import proofs.«01_k».proof.Defs
public import proofs.«01_k».proof.Proof.Gen.MemKv.Frame
public import proofs.«01_k».proof.Proof.MemKv.Final
@[expose] public section
set_option maxRecDepth 16384
noncomputable section
namespace Cert.MemKv.Val
open Idealize.ShloMosaic Idealize.ShloMosaic.TcCoe Idealize.SL.Sem

/-! The claims of the memory's keys and values. -/

/-- The reference leaves its arguments and no credit. -/
theorem frame_r : Cert.quiescent_MemKvReferenceIdeal := fun m ρ _ =>
  (θ_run Cert.MemKvReferenceIdeal.defs _ _).mono (fun r h => ⟨fun c => (h c).2.2.2.2, sem_eq_zero_of_no_sems (by decide) r.2⟩) (Cert.MemKvReferenceIdeal.Value.run m ρ)

/-- From memories agreeing on the arguments both programs end with the same four results. -/
theorem algebraic : Cert.algebraic_MemKvIdeal_MemKvReferenceIdeal := fun m ρ m' ρ' _ hm => by
  refine ⟨fun c => KT (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg2)), fun c => VV (m ((c.tc : Thread Cert.MemKvIdeal.nD Cert.MemKvIdeal.τ).loc Cert.MemKvIdeal.main_arg0)) (m ((c.tc : Thread Cert.MemKvIdeal.nD Cert.MemKvIdeal.τ).loc Cert.MemKvIdeal.main_arg1)) (m ((c.tc : Thread Cert.MemKvIdeal.nD Cert.MemKvIdeal.τ).loc Cert.MemKvIdeal.main_arg3)), fun c => WU (m ((c.tc : Thread Cert.MemKvIdeal.nD Cert.MemKvIdeal.τ).loc Cert.MemKvIdeal.main_arg4)), fun c => WO (m ((c.tc : Thread Cert.MemKvIdeal.nD Cert.MemKvIdeal.τ).loc Cert.MemKvIdeal.main_arg5)),
    (θ_run Cert.MemKvIdeal.defs _ _).mono (fun _ h c => ⟨(h c).1.trans (last6 m c), (h c).2.1.trans (last7 m c), (h c).2.2.1.trans (last8 m c),
      (h c).2.2.2.1.trans (last9 m c), (h c).2.2.2.2⟩) (Cert.MemKvIdeal.Value.run m ρ),
    (θ_run Cert.MemKvReferenceIdeal.defs _ _).mono (fun _ h c => ?_) (Cert.MemKvReferenceIdeal.Value.run m' ρ')⟩
  obtain ⟨e0, e1, e2, e3, e4, e5⟩ := hm c
  obtain ⟨h0, h1, h2, h3, h4⟩ := h c
  refine ⟨h0.trans ?_, h1.trans ?_, h2.trans ?_, h3.trans ?_, h4⟩
  · refine (Cert.MemKvReferenceIdeal.Read.val_main_v19_eq (F := Ideal) (m' ((c.tc : Thread Cert.MemKvReferenceIdeal.nD Cert.MemKvReferenceIdeal.τ).loc Cert.MemKvReferenceIdeal.main_arg0)) (m' ((c.tc : Thread Cert.MemKvReferenceIdeal.nD Cert.MemKvReferenceIdeal.τ).loc Cert.MemKvReferenceIdeal.main_arg1)) (m' ((c.tc : Thread Cert.MemKvReferenceIdeal.nD Cert.MemKvReferenceIdeal.τ).loc Cert.MemKvReferenceIdeal.main_arg2))).trans ((KT_eq _ _ _).trans ?_)
    rw [e0, e1, e2]
  · refine (Cert.MemKvReferenceIdeal.Read.val_main_v20_eq (F := Ideal) (m' ((c.tc : Thread Cert.MemKvReferenceIdeal.nD Cert.MemKvReferenceIdeal.τ).loc Cert.MemKvReferenceIdeal.main_arg0)) (m' ((c.tc : Thread Cert.MemKvReferenceIdeal.nD Cert.MemKvReferenceIdeal.τ).loc Cert.MemKvReferenceIdeal.main_arg1)) (m' ((c.tc : Thread Cert.MemKvReferenceIdeal.nD Cert.MemKvReferenceIdeal.τ).loc Cert.MemKvReferenceIdeal.main_arg3))).trans ((VV_eq _ _ _).trans ?_)
    rw [e0, e1, e3]
  · refine (Cert.MemKvReferenceIdeal.Read.val_main_v22_eq (F := Ideal) (m' ((c.tc : Thread Cert.MemKvReferenceIdeal.nD Cert.MemKvReferenceIdeal.τ).loc Cert.MemKvReferenceIdeal.main_arg4))).trans ((WU_eq _).trans ?_)
    rw [e4]
  · refine (Cert.MemKvReferenceIdeal.Read.val_main_v24_eq (F := Ideal) (m' ((c.tc : Thread Cert.MemKvReferenceIdeal.nD Cert.MemKvReferenceIdeal.τ).loc Cert.MemKvReferenceIdeal.main_arg5))).trans ((WO_eq _).trans ?_)
    rw [e5]

end Cert.MemKv.Val
end
-- ==== Proof.Mixer.Base.lean ====
/- The mixer's frame, its first module: the memrefs the kernel's body is called on, bundled (`Args`, `held`), the
   conditions of its branches as facts of the point, and the three-slot ring through which `x` comes in two blocks ahead:
   its slots, blocks and cells, the canonical forms of the body's operands, and the way into the ring and out of it. The
   grid has one point more than there are blocks, so the way out is stated past the last block. -/
module

public import proofs.«01_k».proof.Proof.Gen.Mixer.Launch
public import proofs.«01_k».proof.Proof.Gen.Mixer.Skeleton
public import proofs.«01_k».proof.Proof.Gen.Mixer.Points
public import proofs.«01_k».proof.Proof.Gen.Mixer.Frame
public import Idealize.ShloMosaic.Lib.VecWindow
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Where the branches of the body go -/

/-- The first point: two blocks are started, and the sets the odd points read are cleared. -/
abbrev isFirst (i : grid0.Coords) : Prop := k0_cond1 i = 1#1
/-- A point with a block of its own to wait for. -/
abbrev hasBlock (i : grid0.Coords) : Prop := k0_cond2 i = 1#1
/-- A point that casts its share of the last weight. -/
abbrev castsLast (i : grid0.Coords) : Prop := k0_cond3 i = 1#1
abbrev clears (i : grid0.Coords) : Prop := (Scalar.cmpi .ne (Scalar.extui (Scalar.cmpi .eq (BitVec.ofNat 32 (i 0).val) 0#32)) 0#32) = 1#1
abbrev isEven (i : grid0.Coords) : Prop := k0_cond5 i = 1#1
abbrev isOdd (i : grid0.Coords) : Prop := k0_cond6 i = 1#1
/-- A point that starts the block two ahead. -/
abbrev starts (i : grid0.Coords) : Prop := k0_cond7 i = 1#1

theorem isFirst_iff : ∀ t : Fin grid0.N, isFirst (grid0.coords t) ↔ t.val = 0 := by decide +kernel
theorem hasBlock_iff : ∀ t : Fin grid0.N, hasBlock (grid0.coords t) ↔ t.val < 64 := by decide +kernel
theorem castsLast_iff : ∀ t : Fin grid0.N, castsLast (grid0.coords t) ↔ t.val < 22 := by decide +kernel
theorem clears_iff : ∀ t : Fin grid0.N, clears (grid0.coords t) ↔ t.val = 0 := by decide +kernel
theorem isEven_iff : ∀ t : Fin grid0.N, isEven (grid0.coords t) ↔ t.val % 2 = 0 := by decide +kernel
theorem isOdd_iff : ∀ t : Fin grid0.N, isOdd (grid0.coords t) ↔ t.val % 2 = 1 := by decide +kernel
theorem starts_iff : ∀ t : Fin grid0.N, starts (grid0.coords t) ↔ t.val < 62 := by decide +kernel

/-! ## The memrefs of the body -/

/-- Each window's current staging memref at point `t`, spelled as the pipeline passes it (`bodyAt0`), and its wholeness. -/
abbrev ms0 (t : Fin cfg0.N) : Memref sig .tc .smem S8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2816 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S16x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S16x2816 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x2816 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S16x1024 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S16x1024 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S16x2816 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S16x2816 .bf16 := win0_16.stage (cfg0.slots t 16)
abbrev hs16 (t : Fin cfg0.N) : (ms16 t).IsWhole := hstage0_16 ((cfg0.slots t 16).cast nbuf0_16)
abbrev ms17 (t : Fin cfg0.N) : Memref sig .tc .vmem S128x1024 .bf16 := win0_17.stage (cfg0.slots t 17)
abbrev hs17 (t : Fin cfg0.N) : (ms17 t).IsWhole := hstage0_17 ((cfg0.slots t 17).cast nbuf0_17)
/-- The scratch operands: whole scoped buffers of the kernel's own, passed beside the windows. -/
abbrev sc0 : Memref sig .tc .vmem S512x1024 .f32 := Memref.whole cc0_scratch0
abbrev sc1 : Memref sig .tc .vmem S512x512 .bf16 := Memref.whole cc0_scratch1
abbrev sc2 : Memref sig .tc .vmem S2x640x128 .bf16 := Memref.whole cc0_scratch2
abbrev sc3 : Memref sig .tc .vmem S2x640x128 .bf16 := Memref.whole cc0_scratch3
abbrev sc4 : Memref sig .tc .vmem S512x512 .bf16 := Memref.whole cc0_scratch4
abbrev sc5 : Memref sig .tc .vmem S512x512 .bf16 := Memref.whole cc0_scratch5
abbrev sc6 : Memref sig .tc .vmem S512x512 .bf16 := Memref.whole cc0_scratch6
abbrev sc7 : Memref sig .tc .vmem S512x512 .bf16 := Memref.whole cc0_scratch7
abbrev sc8 : Memref sig .tc .vmem S8x512x128 .f32 := Memref.whole cc0_scratch8
abbrev sc9 : Memref sig .tc .vmem S512x512 .bf16 := Memref.whole cc0_scratch9
abbrev sc10 : Memref sig .tc .vmem S512x512 .f32 := Memref.whole cc0_scratch10
abbrev sc11 : Memref sig .tc .vmem S512x1024 .f32 := Memref.whole cc0_scratch11
abbrev sc12 : Memref sig .tc .vmem S512x512 .bf16 := Memref.whole cc0_scratch12
abbrev sc13 : Memref sig .tc .vmem S2x640x128 .bf16 := Memref.whole cc0_scratch13
abbrev sc14 : Memref sig .tc .vmem S2x640x128 .bf16 := Memref.whole cc0_scratch14
abbrev sc15 : Memref sig .tc .vmem S512x512 .bf16 := Memref.whole cc0_scratch15
abbrev sc16 : Memref sig .tc .vmem S512x512 .bf16 := Memref.whole cc0_scratch16
abbrev sc17 : Memref sig .tc .vmem S512x512 .bf16 := Memref.whole cc0_scratch17
abbrev sc18 : Memref sig .tc .vmem S512x512 .bf16 := Memref.whole cc0_scratch18
abbrev sc19 : Memref sig .tc .vmem S8x512x128 .f32 := Memref.whole cc0_scratch19
abbrev sc20 : Memref sig .tc .vmem S512x512 .bf16 := Memref.whole cc0_scratch20
abbrev sc21 : Memref sig .tc .vmem S512x512 .f32 := Memref.whole cc0_scratch21
abbrev sc22 : Memref sig .tc .vmem S2x128x128 .bf16 := Memref.whole cc0_scratch22
abbrev sc23 : Memref sig .tc .vmem S2x128x128 .bf16 := Memref.whole cc0_scratch23
abbrev sc24 : Memref sig .tc .vmem S4x128x128 .f32 := Memref.whole cc0_scratch24
abbrev sc25 : Memref sig .tc .vmem S512x1024 .bf16 := Memref.whole cc0_scratch25
abbrev sc26 : Memref sig .tc .vmem S3x512x1024 .f32 := Memref.whole cc0_scratch26
/-- The operands left in HBM that the body copies into scratch itself, whole. -/
abbrev xM : Memref sig .tc .hbm S8x4096x1024 .f32 := Memref.whole main_arg1
/-- Memref `M`'s buffer on core `c`: its contents type, and it held whole at `f` — behind this abbreviation, so that the
    run's rewriting of the goal leaves `Memref.view` intact (the form the executor reads a held buffer in). -/
abbrev BufOf (c : Dev nD) {sp : Space} {S : Shape} {e : EltTy} (M : Memref sig .tc sp S e) : Type := Buf (Elt F) (M.view.loc (c : Thread nD τ))
abbrev ptOf (c : Dev nD) {sp : Space} {S : Shape} {e : EltTy} (M : Memref sig .tc sp S e) (f : BufOf (F := F) c M) : sProp 𝕄 :=
  M.view.loc (c : Thread nD τ) ↦{fullShare} f

/-- The memrefs the body is called on, each whole: the windows' staging memrefs and the scratch, in the body's order. The
    operand left in place, the slots it is copied into and their cells are passed beside them. -/
structure Args where
  arg1 : Memref sig .tc .smem S8 .f32
  harg1 : arg1.IsWhole
  arg3 : Memref sig .tc .vmem S2x512 .f32
  harg3 : arg3.IsWhole
  arg4 : Memref sig .tc .vmem S1x128 .f32
  harg4 : arg4.IsWhole
  arg5 : Memref sig .tc .vmem S1x1024 .f32
  harg5 : arg5.IsWhole
  arg6 : Memref sig .tc .vmem S1x1024 .f32
  harg6 : arg6.IsWhole
  arg7 : Memref sig .tc .vmem S1024x2816 .bf16
  harg7 : arg7.IsWhole
  arg8 : Memref sig .tc .vmem S1024x1024 .bf16
  harg8 : arg8.IsWhole
  arg9 : Memref sig .tc .vmem S16x1024 .f32
  harg9 : arg9.IsWhole
  arg10 : Memref sig .tc .vmem S16x1024 .f32
  harg10 : arg10.IsWhole
  arg11 : Memref sig .tc .vmem S16x2816 .f32
  harg11 : arg11.IsWhole
  arg12 : Memref sig .tc .vmem S16x2816 .f32
  harg12 : arg12.IsWhole
  arg13 : Memref sig .tc .vmem S128x1024 .f32
  harg13 : arg13.IsWhole
  arg14 : Memref sig .tc .vmem S1x512x1024 .f32
  harg14 : arg14.IsWhole
  arg15 : Memref sig .tc .vmem S16x1024 .bf16
  harg15 : arg15.IsWhole
  arg16 : Memref sig .tc .vmem S16x1024 .bf16
  harg16 : arg16.IsWhole
  arg17 : Memref sig .tc .vmem S16x2816 .bf16
  harg17 : arg17.IsWhole
  arg18 : Memref sig .tc .vmem S16x2816 .bf16
  harg18 : arg18.IsWhole
  arg19 : Memref sig .tc .vmem S128x1024 .bf16
  harg19 : arg19.IsWhole
  arg20 : Memref sig .tc .vmem S512x1024 .f32
  harg20 : arg20.IsWhole
  arg21 : Memref sig .tc .vmem S512x512 .bf16
  harg21 : arg21.IsWhole
  arg22 : Memref sig .tc .vmem S2x640x128 .bf16
  harg22 : arg22.IsWhole
  arg23 : Memref sig .tc .vmem S2x640x128 .bf16
  harg23 : arg23.IsWhole
  arg24 : Memref sig .tc .vmem S512x512 .bf16
  harg24 : arg24.IsWhole
  arg25 : Memref sig .tc .vmem S512x512 .bf16
  harg25 : arg25.IsWhole
  arg26 : Memref sig .tc .vmem S512x512 .bf16
  harg26 : arg26.IsWhole
  arg27 : Memref sig .tc .vmem S512x512 .bf16
  harg27 : arg27.IsWhole
  arg28 : Memref sig .tc .vmem S8x512x128 .f32
  harg28 : arg28.IsWhole
  arg29 : Memref sig .tc .vmem S512x512 .bf16
  harg29 : arg29.IsWhole
  arg30 : Memref sig .tc .vmem S512x512 .f32
  harg30 : arg30.IsWhole
  arg31 : Memref sig .tc .vmem S512x1024 .f32
  harg31 : arg31.IsWhole
  arg32 : Memref sig .tc .vmem S512x512 .bf16
  harg32 : arg32.IsWhole
  arg33 : Memref sig .tc .vmem S2x640x128 .bf16
  harg33 : arg33.IsWhole
  arg34 : Memref sig .tc .vmem S2x640x128 .bf16
  harg34 : arg34.IsWhole
  arg35 : Memref sig .tc .vmem S512x512 .bf16
  harg35 : arg35.IsWhole
  arg36 : Memref sig .tc .vmem S512x512 .bf16
  harg36 : arg36.IsWhole
  arg37 : Memref sig .tc .vmem S512x512 .bf16
  harg37 : arg37.IsWhole
  arg38 : Memref sig .tc .vmem S512x512 .bf16
  harg38 : arg38.IsWhole
  arg39 : Memref sig .tc .vmem S8x512x128 .f32
  harg39 : arg39.IsWhole
  arg40 : Memref sig .tc .vmem S512x512 .bf16
  harg40 : arg40.IsWhole
  arg41 : Memref sig .tc .vmem S512x512 .f32
  harg41 : arg41.IsWhole
  arg42 : Memref sig .tc .vmem S2x128x128 .bf16
  harg42 : arg42.IsWhole
  arg43 : Memref sig .tc .vmem S2x128x128 .bf16
  harg43 : arg43.IsWhole
  arg44 : Memref sig .tc .vmem S4x128x128 .f32
  harg44 : arg44.IsWhole
  arg45 : Memref sig .tc .vmem S512x1024 .bf16
  harg45 : arg45.IsWhole

/-- What the input windows hold. -/
structure Ins (F : FTy → Type) where
  x0 : Vec F S8 .f32
  x1 : Vec F S2x512 .f32
  x2 : Vec F S1x128 .f32
  x3 : Vec F S1x1024 .f32
  x4 : Vec F S1x1024 .f32
  x5 : Vec F S1024x2816 .bf16
  x6 : Vec F S1024x1024 .bf16
  x7 : Vec F S16x1024 .f32
  x8 : Vec F S16x1024 .f32
  x9 : Vec F S16x2816 .f32
  x10 : Vec F S16x2816 .f32
  x11 : Vec F S128x1024 .f32

/-- The input windows at their contents, -/
def insHeld (c : Dev nD) (a : Args) (x : Ins F) : sProp 𝕄 :=
  iprop(owns (c : Thread nD τ) a.arg1 fullShare x.x0
    ∗ owns (c : Thread nD τ) a.arg3 fullShare x.x1
    ∗ owns (c : Thread nD τ) a.arg4 fullShare x.x2
    ∗ owns (c : Thread nD τ) a.arg5 fullShare x.x3
    ∗ owns (c : Thread nD τ) a.arg6 fullShare x.x4
    ∗ owns (c : Thread nD τ) a.arg7 fullShare x.x5
    ∗ owns (c : Thread nD τ) a.arg8 fullShare x.x6
    ∗ owns (c : Thread nD τ) a.arg9 fullShare x.x7
    ∗ owns (c : Thread nD τ) a.arg10 fullShare x.x8
    ∗ owns (c : Thread nD τ) a.arg11 fullShare x.x9
    ∗ owns (c : Thread nD τ) a.arg12 fullShare x.x10
    ∗ owns (c : Thread nD τ) a.arg13 fullShare x.x11)
/-- the output windows before a point, the last weight's at `y` and the others at anything, -/
def outsHeld (c : Dev nD) (a : Args) (y : Vec F S128x1024 .bf16) : sProp 𝕄 :=
  iprop((∃ d, owns (c : Thread nD τ) a.arg14 fullShare d)
    ∗ (∃ d, owns (c : Thread nD τ) a.arg15 fullShare d)
    ∗ (∃ d, owns (c : Thread nD τ) a.arg16 fullShare d)
    ∗ (∃ d, owns (c : Thread nD τ) a.arg17 fullShare d)
    ∗ (∃ d, owns (c : Thread nD τ) a.arg18 fullShare d)
    ∗ owns (c : Thread nD τ) a.arg19 fullShare y)
/-- and after it, the first four weights' at the casts of their blocks, the last one's at `z`; -/
def outsLeft (c : Dev nD) (a : Args) (x : Ins F) (z : Vec F S128x1024 .bf16) : sProp 𝕄 :=
  iprop((∃ d, owns (c : Thread nD τ) a.arg14 fullShare d)
    ∗ owns (c : Thread nD τ) a.arg15 fullShare (k0_pay1154 x.x7)
    ∗ owns (c : Thread nD τ) a.arg16 fullShare (k0_pay1155 x.x8)
    ∗ owns (c : Thread nD τ) a.arg17 fullShare (k0_pay1156 x.x9)
    ∗ owns (c : Thread nD τ) a.arg18 fullShare (k0_pay1157 x.x10)
    ∗ owns (c : Thread nD τ) a.arg19 fullShare z)
/-- the last weight's window after a point: the cast of its block while there are blocks left to cast, and then what it held. -/
def lastLeft (t : Fin cfg0.N) (x : Ins F) (y : Vec F S128x1024 .bf16) : Vec F S128x1024 .bf16 := if t.val < 22 then k0_pay1158 x.x11 else y
/-- and the scratch at anything. -/
def scrHeld (c : Dev nD) (a : Args) : sProp 𝕄 :=
  iprop((∃ d, owns (c : Thread nD τ) a.arg20 fullShare d)
    ∗ (∃ d, owns (c : Thread nD τ) a.arg21 fullShare d)
    ∗ (∃ d, owns (c : Thread nD τ) a.arg22 fullShare d)
    ∗ (∃ d, owns (c : Thread nD τ) a.arg23 fullShare d)
    ∗ (∃ d, owns (c : Thread nD τ) a.arg24 fullShare d)
    ∗ (∃ d, owns (c : Thread nD τ) a.arg25 fullShare d)
    ∗ (∃ d, owns (c : Thread nD τ) a.arg26 fullShare d)
    ∗ (∃ d, owns (c : Thread nD τ) a.arg27 fullShare d)
    ∗ (∃ d, owns (c : Thread nD τ) a.arg28 fullShare d)
    ∗ (∃ d, owns (c : Thread nD τ) a.arg29 fullShare d)
    ∗ (∃ d, owns (c : Thread nD τ) a.arg30 fullShare d)
    ∗ (∃ d, owns (c : Thread nD τ) a.arg31 fullShare d)
    ∗ (∃ d, owns (c : Thread nD τ) a.arg32 fullShare d)
    ∗ (∃ d, owns (c : Thread nD τ) a.arg33 fullShare d)
    ∗ (∃ d, owns (c : Thread nD τ) a.arg34 fullShare d)
    ∗ (∃ d, owns (c : Thread nD τ) a.arg35 fullShare d)
    ∗ (∃ d, owns (c : Thread nD τ) a.arg36 fullShare d)
    ∗ (∃ d, owns (c : Thread nD τ) a.arg37 fullShare d)
    ∗ (∃ d, owns (c : Thread nD τ) a.arg38 fullShare d)
    ∗ (∃ d, owns (c : Thread nD τ) a.arg39 fullShare d)
    ∗ (∃ d, owns (c : Thread nD τ) a.arg40 fullShare d)
    ∗ (∃ d, owns (c : Thread nD τ) a.arg41 fullShare d)
    ∗ (∃ d, owns (c : Thread nD τ) a.arg42 fullShare d)
    ∗ (∃ d, owns (c : Thread nD τ) a.arg43 fullShare d)
    ∗ (∃ d, owns (c : Thread nD τ) a.arg44 fullShare d)
    ∗ (∃ d, owns (c : Thread nD τ) a.arg45 fullShare d))

/-- The body at point `t` on these. -/
def bodyOn (t : Fin cfg0.N) (a : Args) : Prog (TpuEff nD τ sig (Elt F) Λ₀ .tc) PUnit :=
  cc0_mixer (grid0.coords t) a.arg1 a.harg1 (Memref.whole main_arg1) (Memref.isWhole_whole _) a.arg3 a.harg3 a.arg4 a.harg4 a.arg5 a.harg5 a.arg6 a.harg6 a.arg7 a.harg7 a.arg8 a.harg8 a.arg9 a.harg9 a.arg10 a.harg10 a.arg11 a.harg11 a.arg12 a.harg12 a.arg13 a.harg13 a.arg14 a.harg14 a.arg15 a.harg15 a.arg16 a.harg16 a.arg17 a.harg17 a.arg18 a.harg18 a.arg19 a.harg19 a.arg20 a.harg20 a.arg21 a.harg21 a.arg22 a.harg22 a.arg23 a.harg23 a.arg24 a.harg24 a.arg25 a.harg25 a.arg26 a.harg26 a.arg27 a.harg27 a.arg28 a.harg28 a.arg29 a.harg29 a.arg30 a.harg30 a.arg31 a.harg31 a.arg32 a.harg32 a.arg33 a.harg33 a.arg34 a.harg34 a.arg35 a.harg35 a.arg36 a.harg36 a.arg37 a.harg37 a.arg38 a.harg38 a.arg39 a.harg39 a.arg40 a.harg40 a.arg41 a.harg41 a.arg42 a.harg42 a.arg43 a.harg43 a.arg44 a.harg44 a.arg45 a.harg45 sc26 (Memref.isWhole_whole _) cc0_scratch27

/-- The memrefs the pipeline passes at point `t`. -/
abbrev argsAt (t : Fin cfg0.N) : Args :=
  ⟨ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t, ms12 t, hs12 t, ms13 t, hs13 t, ms14 t, hs14 t, ms15 t, hs15 t, ms16 t, hs16 t, ms17 t, hs17 t, sc0, Memref.isWhole_whole _, sc1, Memref.isWhole_whole _, sc2, Memref.isWhole_whole _, sc3, Memref.isWhole_whole _, sc4, Memref.isWhole_whole _, sc5, Memref.isWhole_whole _, sc6, Memref.isWhole_whole _, sc7, Memref.isWhole_whole _, sc8, Memref.isWhole_whole _, sc9, Memref.isWhole_whole _, sc10, Memref.isWhole_whole _, sc11, Memref.isWhole_whole _, sc12, Memref.isWhole_whole _, sc13, Memref.isWhole_whole _, sc14, Memref.isWhole_whole _, sc15, Memref.isWhole_whole _, sc16, Memref.isWhole_whole _, sc17, Memref.isWhole_whole _, sc18, Memref.isWhole_whole _, sc19, Memref.isWhole_whole _, sc20, Memref.isWhole_whole _, sc21, Memref.isWhole_whole _, sc22, Memref.isWhole_whole _, sc23, Memref.isWhole_whole _, sc24, Memref.isWhole_whole _, sc25, Memref.isWhole_whole _⟩

/-- A memref held at what a read of it gives back, and at whatever it holds. -/
theorem held_of_unread {c : Dev nD} {sp : Space} {S : Shape} {e : EltTy} {M : Memref sig .tc sp S e} (h : M.IsWhole) (x : S.Idx → Elt F e) :
    (owns (c : Thread nD τ) M fullShare x : sProp 𝕄) ⊣⊢ (M.view.loc (c : Thread nD τ) ↦[M.view.set]{fullShare} h.unread x) := by
  unfold owns; refine ⟨?_, ?_⟩
  · iintro ⟨%f, %hf, H⟩; obtain rfl := h.eq_unread hf; iexact H
  · iintro H; iexists _; isplitr; · ipureintro; exact h.read_unread x
    iexact H
theorem held_any {c : Dev nD} {sp : Space} {S : Shape} {e : EltTy} (M : Memref sig .tc sp S e) :
    (iprop(∃ d, owns (c : Thread nD τ) M fullShare d) : sProp 𝕄) ⊣⊢ iprop(∃ f : BufOf (F := F) c M, M.view.loc (c : Thread nD τ) ↦[M.view.set]{fullShare} f) := by
  unfold owns; refine ⟨?_, ?_⟩
  · iintro ⟨%d, %f, -, H⟩; iexists f; iexact H
  · iintro ⟨%f, H⟩; iexists _, f; isplitr; swap; · iexact H
    ipureintro; rfl

/-- A load of a whole memref reads what it is held at. -/
theorem load_whole {sp : Space} {S : Shape} {e : EltTy} {M : Memref sig .tc sp S e} (h : M.IsWhole) {off : Fin S.rank → ℕ}
    (inb : ∀ a, off a + S.size a ≤ S.size a) (x : S.Idx → Elt F e) :
    M.view.readAt (Elt F) (Rect.unit off S.size inb).toLoadRect (h.unread x) = x := by
  rw [View.readAt_full, h.read_unread]

/-- `insHeld` opened, -/
theorem ins_open (c : Dev nD) (a : Args) (x : Ins F) :
    (insHeld c a x : sProp 𝕄) ⊢ iprop((a.arg1.view.loc (c : Thread nD τ) ↦[a.arg1.view.set]{fullShare} a.harg1.unread x.x0)
      ∗ (a.arg3.view.loc (c : Thread nD τ) ↦[a.arg3.view.set]{fullShare} a.harg3.unread x.x1)
      ∗ (a.arg4.view.loc (c : Thread nD τ) ↦[a.arg4.view.set]{fullShare} a.harg4.unread x.x2)
      ∗ (a.arg5.view.loc (c : Thread nD τ) ↦[a.arg5.view.set]{fullShare} a.harg5.unread x.x3)
      ∗ (a.arg6.view.loc (c : Thread nD τ) ↦[a.arg6.view.set]{fullShare} a.harg6.unread x.x4)
      ∗ (a.arg7.view.loc (c : Thread nD τ) ↦[a.arg7.view.set]{fullShare} a.harg7.unread x.x5)
      ∗ (a.arg8.view.loc (c : Thread nD τ) ↦[a.arg8.view.set]{fullShare} a.harg8.unread x.x6)
      ∗ (a.arg9.view.loc (c : Thread nD τ) ↦[a.arg9.view.set]{fullShare} a.harg9.unread x.x7)
      ∗ (a.arg10.view.loc (c : Thread nD τ) ↦[a.arg10.view.set]{fullShare} a.harg10.unread x.x8)
      ∗ (a.arg11.view.loc (c : Thread nD τ) ↦[a.arg11.view.set]{fullShare} a.harg11.unread x.x9)
      ∗ (a.arg12.view.loc (c : Thread nD τ) ↦[a.arg12.view.set]{fullShare} a.harg12.unread x.x10)
      ∗ (a.arg13.view.loc (c : Thread nD τ) ↦[a.arg13.view.set]{fullShare} a.harg13.unread x.x11)) := by
  unfold insHeld
  iintro ⟨H1, H3, H4, H5, H6, H7, H8, H9, H10, H11, H12, H13⟩
  isplitl [H1]; · iapply (held_of_unread a.harg1 _).1; iexact H1
  isplitl [H3]; · iapply (held_of_unread a.harg3 _).1; iexact H3
  isplitl [H4]; · iapply (held_of_unread a.harg4 _).1; iexact H4
  isplitl [H5]; · iapply (held_of_unread a.harg5 _).1; iexact H5
  isplitl [H6]; · iapply (held_of_unread a.harg6 _).1; iexact H6
  isplitl [H7]; · iapply (held_of_unread a.harg7 _).1; iexact H7
  isplitl [H8]; · iapply (held_of_unread a.harg8 _).1; iexact H8
  isplitl [H9]; · iapply (held_of_unread a.harg9 _).1; iexact H9
  isplitl [H10]; · iapply (held_of_unread a.harg10 _).1; iexact H10
  isplitl [H11]; · iapply (held_of_unread a.harg11 _).1; iexact H11
  isplitl [H12]; · iapply (held_of_unread a.harg12 _).1; iexact H12
  iapply (held_of_unread a.harg13 _).1; iexact H13
/-- and closed. -/
theorem ins_close (c : Dev nD) (a : Args) (x : Ins F) :
    ⊢ (iprop((a.arg1.view.loc (c : Thread nD τ) ↦[a.arg1.view.set]{fullShare} a.harg1.unread x.x0)
      -∗ (a.arg3.view.loc (c : Thread nD τ) ↦[a.arg3.view.set]{fullShare} a.harg3.unread x.x1)
      -∗ (a.arg4.view.loc (c : Thread nD τ) ↦[a.arg4.view.set]{fullShare} a.harg4.unread x.x2)
      -∗ (a.arg5.view.loc (c : Thread nD τ) ↦[a.arg5.view.set]{fullShare} a.harg5.unread x.x3)
      -∗ (a.arg6.view.loc (c : Thread nD τ) ↦[a.arg6.view.set]{fullShare} a.harg6.unread x.x4)
      -∗ (a.arg7.view.loc (c : Thread nD τ) ↦[a.arg7.view.set]{fullShare} a.harg7.unread x.x5)
      -∗ (a.arg8.view.loc (c : Thread nD τ) ↦[a.arg8.view.set]{fullShare} a.harg8.unread x.x6)
      -∗ (a.arg9.view.loc (c : Thread nD τ) ↦[a.arg9.view.set]{fullShare} a.harg9.unread x.x7)
      -∗ (a.arg10.view.loc (c : Thread nD τ) ↦[a.arg10.view.set]{fullShare} a.harg10.unread x.x8)
      -∗ (a.arg11.view.loc (c : Thread nD τ) ↦[a.arg11.view.set]{fullShare} a.harg11.unread x.x9)
      -∗ (a.arg12.view.loc (c : Thread nD τ) ↦[a.arg12.view.set]{fullShare} a.harg12.unread x.x10)
      -∗ (a.arg13.view.loc (c : Thread nD τ) ↦[a.arg13.view.set]{fullShare} a.harg13.unread x.x11)
      -∗ insHeld c a x) : sProp 𝕄) := by
  unfold insHeld
  iintro H1 H3 H4 H5 H6 H7 H8 H9 H10 H11 H12 H13
  isplitl [H1]; · iapply (held_of_unread a.harg1 _).2; iexact H1
  isplitl [H3]; · iapply (held_of_unread a.harg3 _).2; iexact H3
  isplitl [H4]; · iapply (held_of_unread a.harg4 _).2; iexact H4
  isplitl [H5]; · iapply (held_of_unread a.harg5 _).2; iexact H5
  isplitl [H6]; · iapply (held_of_unread a.harg6 _).2; iexact H6
  isplitl [H7]; · iapply (held_of_unread a.harg7 _).2; iexact H7
  isplitl [H8]; · iapply (held_of_unread a.harg8 _).2; iexact H8
  isplitl [H9]; · iapply (held_of_unread a.harg9 _).2; iexact H9
  isplitl [H10]; · iapply (held_of_unread a.harg10 _).2; iexact H10
  isplitl [H11]; · iapply (held_of_unread a.harg11 _).2; iexact H11
  isplitl [H12]; · iapply (held_of_unread a.harg12 _).2; iexact H12
  iapply (held_of_unread a.harg13 _).2; iexact H13

/-- `outsHeld` opened, -/
theorem outs_open (c : Dev nD) (a : Args) (y : Vec F S128x1024 .bf16) :
    (outsHeld c a y : sProp 𝕄) ⊢ iprop((∃ f : BufOf (F := F) c a.arg14, a.arg14.view.loc (c : Thread nD τ) ↦[a.arg14.view.set]{fullShare} f)
      ∗ (∃ f : BufOf (F := F) c a.arg15, a.arg15.view.loc (c : Thread nD τ) ↦[a.arg15.view.set]{fullShare} f)
      ∗ (∃ f : BufOf (F := F) c a.arg16, a.arg16.view.loc (c : Thread nD τ) ↦[a.arg16.view.set]{fullShare} f)
      ∗ (∃ f : BufOf (F := F) c a.arg17, a.arg17.view.loc (c : Thread nD τ) ↦[a.arg17.view.set]{fullShare} f)
      ∗ (∃ f : BufOf (F := F) c a.arg18, a.arg18.view.loc (c : Thread nD τ) ↦[a.arg18.view.set]{fullShare} f)
      ∗ (a.arg19.view.loc (c : Thread nD τ) ↦[a.arg19.view.set]{fullShare} a.harg19.unread y)) := by
  unfold outsHeld
  iintro ⟨H14, H15, H16, H17, H18, H19⟩
  isplitl [H14]; · iapply (held_any a.arg14).1; iexact H14
  isplitl [H15]; · iapply (held_any a.arg15).1; iexact H15
  isplitl [H16]; · iapply (held_any a.arg16).1; iexact H16
  isplitl [H17]; · iapply (held_any a.arg17).1; iexact H17
  isplitl [H18]; · iapply (held_any a.arg18).1; iexact H18
  iapply (held_of_unread a.harg19 y).1; iexact H19
/-- and `outsLeft` closed. -/
theorem outs_close (c : Dev nD) (a : Args) (x : Ins F) (z : Vec F S128x1024 .bf16) :
    iprop((∃ f : BufOf (F := F) c a.arg14, a.arg14.view.loc (c : Thread nD τ) ↦[a.arg14.view.set]{fullShare} f)
      ∗ owns (c : Thread nD τ) a.arg15 fullShare (k0_pay1154 x.x7)
      ∗ owns (c : Thread nD τ) a.arg16 fullShare (k0_pay1155 x.x8)
      ∗ owns (c : Thread nD τ) a.arg17 fullShare (k0_pay1156 x.x9)
      ∗ owns (c : Thread nD τ) a.arg18 fullShare (k0_pay1157 x.x10)
      ∗ owns (c : Thread nD τ) a.arg19 fullShare z) ⊢ (outsLeft c a x z : sProp 𝕄) := by
  unfold outsLeft
  iintro ⟨H14, H⟩
  isplitl [H14]; · iapply (held_any a.arg14).2; iexact H14
  iexact H

/-- `scrHeld` opened, -/
theorem scr_open (c : Dev nD) (a : Args) :
    (scrHeld c a : sProp 𝕄) ⊢ iprop((∃ f : BufOf (F := F) c a.arg20, a.arg20.view.loc (c : Thread nD τ) ↦[a.arg20.view.set]{fullShare} f)
      ∗ (∃ f : BufOf (F := F) c a.arg21, a.arg21.view.loc (c : Thread nD τ) ↦[a.arg21.view.set]{fullShare} f)
      ∗ (∃ f : BufOf (F := F) c a.arg22, a.arg22.view.loc (c : Thread nD τ) ↦[a.arg22.view.set]{fullShare} f)
      ∗ (∃ f : BufOf (F := F) c a.arg23, a.arg23.view.loc (c : Thread nD τ) ↦[a.arg23.view.set]{fullShare} f)
      ∗ (∃ f : BufOf (F := F) c a.arg24, a.arg24.view.loc (c : Thread nD τ) ↦[a.arg24.view.set]{fullShare} f)
      ∗ (∃ f : BufOf (F := F) c a.arg25, a.arg25.view.loc (c : Thread nD τ) ↦[a.arg25.view.set]{fullShare} f)
      ∗ (∃ f : BufOf (F := F) c a.arg26, a.arg26.view.loc (c : Thread nD τ) ↦[a.arg26.view.set]{fullShare} f)
      ∗ (∃ f : BufOf (F := F) c a.arg27, a.arg27.view.loc (c : Thread nD τ) ↦[a.arg27.view.set]{fullShare} f)
      ∗ (∃ f : BufOf (F := F) c a.arg28, a.arg28.view.loc (c : Thread nD τ) ↦[a.arg28.view.set]{fullShare} f)
      ∗ (∃ f : BufOf (F := F) c a.arg29, a.arg29.view.loc (c : Thread nD τ) ↦[a.arg29.view.set]{fullShare} f)
      ∗ (∃ f : BufOf (F := F) c a.arg30, a.arg30.view.loc (c : Thread nD τ) ↦[a.arg30.view.set]{fullShare} f)
      ∗ (∃ f : BufOf (F := F) c a.arg31, a.arg31.view.loc (c : Thread nD τ) ↦[a.arg31.view.set]{fullShare} f)
      ∗ (∃ f : BufOf (F := F) c a.arg32, a.arg32.view.loc (c : Thread nD τ) ↦[a.arg32.view.set]{fullShare} f)
      ∗ (∃ f : BufOf (F := F) c a.arg33, a.arg33.view.loc (c : Thread nD τ) ↦[a.arg33.view.set]{fullShare} f)
      ∗ (∃ f : BufOf (F := F) c a.arg34, a.arg34.view.loc (c : Thread nD τ) ↦[a.arg34.view.set]{fullShare} f)
      ∗ (∃ f : BufOf (F := F) c a.arg35, a.arg35.view.loc (c : Thread nD τ) ↦[a.arg35.view.set]{fullShare} f)
      ∗ (∃ f : BufOf (F := F) c a.arg36, a.arg36.view.loc (c : Thread nD τ) ↦[a.arg36.view.set]{fullShare} f)
      ∗ (∃ f : BufOf (F := F) c a.arg37, a.arg37.view.loc (c : Thread nD τ) ↦[a.arg37.view.set]{fullShare} f)
      ∗ (∃ f : BufOf (F := F) c a.arg38, a.arg38.view.loc (c : Thread nD τ) ↦[a.arg38.view.set]{fullShare} f)
      ∗ (∃ f : BufOf (F := F) c a.arg39, a.arg39.view.loc (c : Thread nD τ) ↦[a.arg39.view.set]{fullShare} f)
      ∗ (∃ f : BufOf (F := F) c a.arg40, a.arg40.view.loc (c : Thread nD τ) ↦[a.arg40.view.set]{fullShare} f)
      ∗ (∃ f : BufOf (F := F) c a.arg41, a.arg41.view.loc (c : Thread nD τ) ↦[a.arg41.view.set]{fullShare} f)
      ∗ (∃ f : BufOf (F := F) c a.arg42, a.arg42.view.loc (c : Thread nD τ) ↦[a.arg42.view.set]{fullShare} f)
      ∗ (∃ f : BufOf (F := F) c a.arg43, a.arg43.view.loc (c : Thread nD τ) ↦[a.arg43.view.set]{fullShare} f)
      ∗ (∃ f : BufOf (F := F) c a.arg44, a.arg44.view.loc (c : Thread nD τ) ↦[a.arg44.view.set]{fullShare} f)
      ∗ (∃ f : BufOf (F := F) c a.arg45, a.arg45.view.loc (c : Thread nD τ) ↦[a.arg45.view.set]{fullShare} f)) := by
  unfold scrHeld
  iintro ⟨H20, H21, H22, H23, H24, H25, H26, H27, H28, H29, H30, H31, H32, H33, H34, H35, H36, H37, H38, H39, H40, H41, H42, H43, H44, H45⟩
  isplitl [H20]; · iapply (held_any a.arg20).1; iexact H20
  isplitl [H21]; · iapply (held_any a.arg21).1; iexact H21
  isplitl [H22]; · iapply (held_any a.arg22).1; iexact H22
  isplitl [H23]; · iapply (held_any a.arg23).1; iexact H23
  isplitl [H24]; · iapply (held_any a.arg24).1; iexact H24
  isplitl [H25]; · iapply (held_any a.arg25).1; iexact H25
  isplitl [H26]; · iapply (held_any a.arg26).1; iexact H26
  isplitl [H27]; · iapply (held_any a.arg27).1; iexact H27
  isplitl [H28]; · iapply (held_any a.arg28).1; iexact H28
  isplitl [H29]; · iapply (held_any a.arg29).1; iexact H29
  isplitl [H30]; · iapply (held_any a.arg30).1; iexact H30
  isplitl [H31]; · iapply (held_any a.arg31).1; iexact H31
  isplitl [H32]; · iapply (held_any a.arg32).1; iexact H32
  isplitl [H33]; · iapply (held_any a.arg33).1; iexact H33
  isplitl [H34]; · iapply (held_any a.arg34).1; iexact H34
  isplitl [H35]; · iapply (held_any a.arg35).1; iexact H35
  isplitl [H36]; · iapply (held_any a.arg36).1; iexact H36
  isplitl [H37]; · iapply (held_any a.arg37).1; iexact H37
  isplitl [H38]; · iapply (held_any a.arg38).1; iexact H38
  isplitl [H39]; · iapply (held_any a.arg39).1; iexact H39
  isplitl [H40]; · iapply (held_any a.arg40).1; iexact H40
  isplitl [H41]; · iapply (held_any a.arg41).1; iexact H41
  isplitl [H42]; · iapply (held_any a.arg42).1; iexact H42
  isplitl [H43]; · iapply (held_any a.arg43).1; iexact H43
  isplitl [H44]; · iapply (held_any a.arg44).1; iexact H44
  iapply (held_any a.arg45).1; iexact H45
/-- and closed. -/
theorem scr_close (c : Dev nD) (a : Args) {f20 : BufOf (F := F) c a.arg20} {f21 : BufOf (F := F) c a.arg21} {f22 : BufOf (F := F) c a.arg22} {f23 : BufOf (F := F) c a.arg23} {f24 : BufOf (F := F) c a.arg24} {f25 : BufOf (F := F) c a.arg25} {f26 : BufOf (F := F) c a.arg26} {f27 : BufOf (F := F) c a.arg27} {f28 : BufOf (F := F) c a.arg28} {f29 : BufOf (F := F) c a.arg29} {f30 : BufOf (F := F) c a.arg30} {f31 : BufOf (F := F) c a.arg31} {f32 : BufOf (F := F) c a.arg32} {f33 : BufOf (F := F) c a.arg33} {f34 : BufOf (F := F) c a.arg34} {f35 : BufOf (F := F) c a.arg35} {f36 : BufOf (F := F) c a.arg36} {f37 : BufOf (F := F) c a.arg37} {f38 : BufOf (F := F) c a.arg38} {f39 : BufOf (F := F) c a.arg39} {f40 : BufOf (F := F) c a.arg40} {f41 : BufOf (F := F) c a.arg41} {f42 : BufOf (F := F) c a.arg42} {f43 : BufOf (F := F) c a.arg43} {f44 : BufOf (F := F) c a.arg44} {f45 : BufOf (F := F) c a.arg45} :
    ⊢ (iprop((a.arg20.view.loc (c : Thread nD τ) ↦[a.arg20.view.set]{fullShare} f20)
      -∗ (a.arg21.view.loc (c : Thread nD τ) ↦[a.arg21.view.set]{fullShare} f21)
      -∗ (a.arg22.view.loc (c : Thread nD τ) ↦[a.arg22.view.set]{fullShare} f22)
      -∗ (a.arg23.view.loc (c : Thread nD τ) ↦[a.arg23.view.set]{fullShare} f23)
      -∗ (a.arg24.view.loc (c : Thread nD τ) ↦[a.arg24.view.set]{fullShare} f24)
      -∗ (a.arg25.view.loc (c : Thread nD τ) ↦[a.arg25.view.set]{fullShare} f25)
      -∗ (a.arg26.view.loc (c : Thread nD τ) ↦[a.arg26.view.set]{fullShare} f26)
      -∗ (a.arg27.view.loc (c : Thread nD τ) ↦[a.arg27.view.set]{fullShare} f27)
      -∗ (a.arg28.view.loc (c : Thread nD τ) ↦[a.arg28.view.set]{fullShare} f28)
      -∗ (a.arg29.view.loc (c : Thread nD τ) ↦[a.arg29.view.set]{fullShare} f29)
      -∗ (a.arg30.view.loc (c : Thread nD τ) ↦[a.arg30.view.set]{fullShare} f30)
      -∗ (a.arg31.view.loc (c : Thread nD τ) ↦[a.arg31.view.set]{fullShare} f31)
      -∗ (a.arg32.view.loc (c : Thread nD τ) ↦[a.arg32.view.set]{fullShare} f32)
      -∗ (a.arg33.view.loc (c : Thread nD τ) ↦[a.arg33.view.set]{fullShare} f33)
      -∗ (a.arg34.view.loc (c : Thread nD τ) ↦[a.arg34.view.set]{fullShare} f34)
      -∗ (a.arg35.view.loc (c : Thread nD τ) ↦[a.arg35.view.set]{fullShare} f35)
      -∗ (a.arg36.view.loc (c : Thread nD τ) ↦[a.arg36.view.set]{fullShare} f36)
      -∗ (a.arg37.view.loc (c : Thread nD τ) ↦[a.arg37.view.set]{fullShare} f37)
      -∗ (a.arg38.view.loc (c : Thread nD τ) ↦[a.arg38.view.set]{fullShare} f38)
      -∗ (a.arg39.view.loc (c : Thread nD τ) ↦[a.arg39.view.set]{fullShare} f39)
      -∗ (a.arg40.view.loc (c : Thread nD τ) ↦[a.arg40.view.set]{fullShare} f40)
      -∗ (a.arg41.view.loc (c : Thread nD τ) ↦[a.arg41.view.set]{fullShare} f41)
      -∗ (a.arg42.view.loc (c : Thread nD τ) ↦[a.arg42.view.set]{fullShare} f42)
      -∗ (a.arg43.view.loc (c : Thread nD τ) ↦[a.arg43.view.set]{fullShare} f43)
      -∗ (a.arg44.view.loc (c : Thread nD τ) ↦[a.arg44.view.set]{fullShare} f44)
      -∗ (a.arg45.view.loc (c : Thread nD τ) ↦[a.arg45.view.set]{fullShare} f45)
      -∗ scrHeld c a) : sProp 𝕄) := by
  unfold scrHeld
  iintro H20 H21 H22 H23 H24 H25 H26 H27 H28 H29 H30 H31 H32 H33 H34 H35 H36 H37 H38 H39 H40 H41 H42 H43 H44 H45
  isplitl [H20]; · iapply (held_any a.arg20).2; iexists f20; iexact H20
  isplitl [H21]; · iapply (held_any a.arg21).2; iexists f21; iexact H21
  isplitl [H22]; · iapply (held_any a.arg22).2; iexists f22; iexact H22
  isplitl [H23]; · iapply (held_any a.arg23).2; iexists f23; iexact H23
  isplitl [H24]; · iapply (held_any a.arg24).2; iexists f24; iexact H24
  isplitl [H25]; · iapply (held_any a.arg25).2; iexists f25; iexact H25
  isplitl [H26]; · iapply (held_any a.arg26).2; iexists f26; iexact H26
  isplitl [H27]; · iapply (held_any a.arg27).2; iexists f27; iexact H27
  isplitl [H28]; · iapply (held_any a.arg28).2; iexists f28; iexact H28
  isplitl [H29]; · iapply (held_any a.arg29).2; iexists f29; iexact H29
  isplitl [H30]; · iapply (held_any a.arg30).2; iexists f30; iexact H30
  isplitl [H31]; · iapply (held_any a.arg31).2; iexists f31; iexact H31
  isplitl [H32]; · iapply (held_any a.arg32).2; iexists f32; iexact H32
  isplitl [H33]; · iapply (held_any a.arg33).2; iexists f33; iexact H33
  isplitl [H34]; · iapply (held_any a.arg34).2; iexists f34; iexact H34
  isplitl [H35]; · iapply (held_any a.arg35).2; iexists f35; iexact H35
  isplitl [H36]; · iapply (held_any a.arg36).2; iexists f36; iexact H36
  isplitl [H37]; · iapply (held_any a.arg37).2; iexists f37; iexact H37
  isplitl [H38]; · iapply (held_any a.arg38).2; iexists f38; iexact H38
  isplitl [H39]; · iapply (held_any a.arg39).2; iexists f39; iexact H39
  isplitl [H40]; · iapply (held_any a.arg40).2; iexists f40; iexact H40
  isplitl [H41]; · iapply (held_any a.arg41).2; iexists f41; iexact H41
  isplitl [H42]; · iapply (held_any a.arg42).2; iexists f42; iexact H42
  isplitl [H43]; · iapply (held_any a.arg43).2; iexists f43; iexact H43
  isplitl [H44]; · iapply (held_any a.arg44).2; iexists f44; iexact H44
  iapply (held_any a.arg45).2; iexists f45; iexact H45

abbrev osem : Fin 3 → SemLoc sig := fun j => (![SemLoc.dma 29, SemLoc.dma 30, SemLoc.dma 31] : Fin 3 → SemLoc sig) j
theorem osem_facts : Pipeline.OwnSemFacts spec0 osem := by decide
/-- The cells at zero, listed. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 29) 0 ∗ semVal ((c : Thread nD τ), SemLoc.dma 30) 0 ∗ semVal ((c : Thread nD τ), SemLoc.dma 31) 0) := by
  rw [Pipeline.ownSems0_eq_of_list c osem [0, 1, 2] (by decide) (by decide)]; rfl
/-- The HBM operands the body moves, as references: unscoped, no window's array (`Pipeline.restRefs`). -/
def H0 : Finset (Ref sig .tc) := {main_arg1}
theorem hbm_sub : H0 ⊆ Pipeline.restRefs sig spec0 := by decide
/-- Their points-tos at the launch contents, listed. -/
theorem hbmPts_eq (c : Dev nD) :
    (bigSep H0 (fun b => ((c : Thread nD τ).loc b) ↦{fullShare} V m c b) : sProp 𝕄) = iprop(ptOf c xM (V m c main_arg1)) := by
  rw [BI.bigSep_eq_bigSepL_of_eq [main_arg1] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD_eq (c : Dev nD) :
    (Pipeline.ΦD osem spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d) ∗ (∃ d, owns (c : Thread nD τ) sc19 fullShare d) ∗ (∃ d, owns (c : Thread nD τ) sc20 fullShare d) ∗ (∃ d, owns (c : Thread nD τ) sc21 fullShare d) ∗ (∃ d, owns (c : Thread nD τ) sc22 fullShare d) ∗ (∃ d, owns (c : Thread nD τ) sc23 fullShare d) ∗ (∃ d, owns (c : Thread nD τ) sc24 fullShare d) ∗ (∃ d, owns (c : Thread nD τ) sc25 fullShare d) ∗ (∃ d, owns (c : Thread nD τ) sc26 fullShare d)) ∗ (∃ r, prngReg c r) ∗ iprop(semVal ((c : Thread nD τ), SemLoc.dma 29) 0 ∗ semVal ((c : Thread nD τ), SemLoc.dma 30) 0 ∗ semVal ((c : Thread nD τ), SemLoc.dma 31) 0) ∗ iprop(ptOf c xM (V m c main_arg1))) := by
  rw [Pipeline.ΦD_eq, scopedRest0_eq, ownSems_eq, hbmPts_eq]; simp only [sc0, sc1, sc2, sc3, sc4, sc5, sc6, sc7, sc8, sc9, sc10, sc11, sc12, sc13, sc14, sc15, sc16, sc17, sc18, sc19, sc20, sc21, sc22, sc23, sc24, sc25, sc26, owns_whole]; try rfl

/-! ## The ring of the operand `x`: three slots, two blocks ahead -/

instance : NeZero grid0.N := ⟨by rw [N_0]; decide⟩
theorem inb_slot (s : Fin 3) : ∀ a, (![s.val, 0, 0] : Fin 3 → Nat) a + S1x512x1024.size a ≤ S3x512x1024.size a := by
  have := s.isLt; intro a; fin_cases a <;> simp <;> omega
theorem inb_src (b : Fin 64) : ∀ a, (![(b.val / 8), 512 * (b.val % 8), 0] : Fin 3 → Nat) a + S1x512x1024.size a ≤ S8x4096x1024.size a := by
  have := b.isLt; intro a; fin_cases a <;> simp <;> omega
theorem inb_cell (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def slotM (s : Fin 3) : Memref sig .tc .vmem S512x1024 .f32 :=
  (sc26.slice (Rect.unit (s := S3x512x1024) ![s.val, 0, 0] S1x512x1024.size (inb_slot s)) (fun _ => rfl)).squeeze S512x1024 squeezes_S1x512x1024_S512x1024
/-- Block `b` of the operand (the block step `b` waits), spelt as the transfers spell their source, at offsets in `b`. -/
def blockM (b : Fin 64) : Memref sig .tc .hbm S512x1024 .f32 :=
  (xM.slice (Rect.unit (s := S8x4096x1024) ![(b.val / 8), 512 * (b.val % 8), 0] S1x512x1024.size (inb_src b)) (fun _ => rfl)).squeeze S512x1024 squeezes_S1x512x1024_S512x1024
/-- Cell `s` of `cc0_scratch27`, spelt as the body spells a cell; its number in the pool. -/
def cellM (s : Fin 3) : DmaSems sig S_ := (cc0_scratch27.slice (Rect.unit (s := S3) ![s.val] S1.size (inb_cell s))).squeeze S_ squeezes_S1_S_
abbrev cellL (s : Fin 3) : SemLoc sig := SemLoc.dma (cellM s).sem
theorem cellL_0 : cellL 0 = SemLoc.dma 29 := by decide
theorem cellL_1 : cellL 1 = SemLoc.dma 30 := by decide
theorem cellL_2 : cellL 2 = SemLoc.dma 31 := by decide

section Ring0_0
variable (c : Dev nD) (W : BufOf (F := F) c xM)
/-- The operand is lent BY SHARE, one read-share copy of it per slot (the full share halved, the right half halved again):
    whatever blocks the transfers in flight stream — the same one twice, ones that overlap —, each borrows from its own slot's copy. -/
abbrev qs (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP (s : Fin 3) (f : BufOf (F := F) c (slotM s)) : sProp 𝕄 := (slotM s).view.loc (c : Thread nD τ) ↦[(slotM s).view.set]{fullShare} f
abbrev cellP (s : Fin 3) : sProp 𝕄 := semVal ((c : Thread nD τ), cellL s) 0
abbrev lentP (s : Fin 3) (b : Fin 64) : sProp 𝕄 := (blockM b).view.loc (c : Thread nD τ) ↦[(blockM b).view.set]{qs s} W
/-- (a `def`: no run reads this rest, and folded it stays out of the executor's table of held buffers) -/
def restP (s : Fin 3) (b : Fin 64) : sProp 𝕄 := ((c : Thread nD τ).loc main_arg1) ↦[Finset.univ \ (blockM b).view.set]{qs s} W
abbrev copyP (s : Fin 3) : sProp 𝕄 := ((c : Thread nD τ).loc main_arg1) ↦[Finset.univ]{qs s} W
abbrev landed (s : Fin 3) (b : Fin 64) (f : BufOf (F := F) c (slotM s)) : BufOf (F := F) c (slotM s) :=
  (slotM s).view.writes (Elt F) f [⟨Rect.whole S512x1024, ReadAs.same.apply ((blockM b).view.read (Elt F) W)⟩]
abbrev flightP (s : Fin 3) (b : Fin 64) (f : BufOf (F := F) c (slotM s)) : sProp 𝕄 :=
  Transfers.Flight countersEmb (c : Thread nD τ) (cellL s) default ((slotM s).view.amount (cellL s))
    iprop(slotP c s (landed c W s b f) ∗ lentP c W s b)
/-- Lib/Ring.lean's `slot` and `flight` families: a slot not in flight carries its copy of the operand whole; a flight, the
    rest of the copy it borrowed from. No block is held apart: the `home` family is `emp`. -/
abbrev slotW (s : Fin 3) (f : BufOf (F := F) c (slotM s)) : sProp 𝕄 := iprop(slotP c s f ∗ copyP c W s)
abbrev flightW (s : Fin 3) (b : Fin 64) (f : BufOf (F := F) c (slotM s)) : sProp 𝕄 := iprop(flightP c W s b f ∗ restP c W s b)
abbrev noHome (b : Fin 64) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt (k : ℕ) : sProp 𝕄 :=
  if k = 0 then Ring.At₀ (cellP c) (slotW c W) noHome
  else Ring.At 2 (cellP c) (slotW c W) noHome (flightW c W) k
omit [FloatOps F] in
theorem cellP_0 : cellP (F := F) c 0 = semVal ((c : Thread nD τ), SemLoc.dma 29) 0 := congrArg (fun x => (semVal ((c : Thread nD τ), x) 0 : sProp 𝕄)) cellL_0
omit [FloatOps F] in
theorem cellP_1 : cellP (F := F) c 1 = semVal ((c : Thread nD τ), SemLoc.dma 30) 0 := congrArg (fun x => (semVal ((c : Thread nD τ), x) 0 : sProp 𝕄)) cellL_1
omit [FloatOps F] in
theorem cellP_2 : cellP (F := F) c 2 = semVal ((c : Thread nD τ), SemLoc.dma 31) 0 := congrArg (fun x => (semVal ((c : Thread nD τ), x) 0 : sProp 𝕄)) cellL_2
end Ring0_0

/-! ### The slots, disjoint and covering the scratch -/

abbrev slotSet (s : Fin 3) : Finset S3x512x1024.Idx := (Rect.unit (s := S3x512x1024) ![s.val, 0, 0] S1x512x1024.size (inb_slot s)).set
theorem slotSet_eq (s : Fin 3) : (slotM s).view.set = slotSet s := by
  simp only [slotM, Memref.view_squeeze, View.set_reshape]; exact View.set_slice_whole _ _
theorem slots_disjoint (s s' : Fin 3) (h : s ≠ s') : Disjoint (slotSet s) (slotSet s') :=
  Ring.lead_disjoint (s := S3x512x1024) (0 : Fin 3) 1 (fun s : Fin 3 => (![s.val, 0, 0] : Fin 3 → Nat)) S1x512x1024.size inb_slot (fun s => by simp) rfl s s' h
theorem slots_cover : Finset.univ.biUnion slotSet = Finset.univ :=
  Ring.lead_cover (s := S3x512x1024) (0 : Fin 3) 1 (fun s : Fin 3 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : BufOf (F := F) c xM)
theorem slotP_eq (s : Fin 3) (f) : slotP (F := F) c s f = (((c : Thread nD τ).loc cc0_scratch26) ↦[slotSet s]{fullShare} f : sProp 𝕄) := by
  unfold slotP; rw [slotSet_eq]; rfl
/-- A slot's copy of the operand, whole, is block `b`'s elements and the rest (any `b`: what a run splits off before its step
    starts block `b`, and joins back once the wait returned it); -/
theorem copy_split (s : Fin 3) (b : Fin 64) : copyP (F := F) c W s ⊣⊢ iprop(lentP c W s b ∗ restP c W s b) := by
  unfold restP; exact pointsTo_split_subset (Finset.subset_univ _)
/-- the operand whole at the full share is the three copies (halves, the right one halved again). -/
theorem whole_split : (ptOf c xM W : sProp 𝕄) ⊣⊢ iprop(copyP c W 0 ∗ copyP c W 1 ∗ copyP c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots_in : iprop(∃ d, owns (c : Thread nD τ) sc26 fullShare d) ⊢ (iprop((∃ f, slotP (F := F) c 0 f) ∗ (∃ f, slotP (F := F) c 1 f) ∗ ∃ f, slotP (F := F) c 2 f) : sProp 𝕄) := by
  simp only [sc26, owns_whole]
  exact Ring.slots3_split (U := Pipeline.UD sig nD τ) (ℓ := (c : Thread nD τ).loc cc0_scratch26) (q := fullShare) slotSet slots_disjoint slots_cover
    (slotP c 0) (slotP c 1) (slotP c 2) (slotP_eq c 0) (slotP_eq c 1) (slotP_eq c 2)
set_option maxHeartbeats 1000000 in
theorem slots_out : (iprop((∃ f, slotP (F := F) c 0 f) ∗ (∃ f, slotP (F := F) c 1 f) ∗ ∃ f, slotP (F := F) c 2 f) : sProp 𝕄) ⊢ iprop(∃ d, owns (c : Thread nD τ) sc26 fullShare d) := by
  simp only [sc26, owns_whole]
  exact Ring.slots3_join (U := Pipeline.UD sig nD τ) (ℓ := (c : Thread nD τ).loc cc0_scratch26) (q := fullShare) slotSet slots_disjoint slots_cover
    (slotP c 0) (slotP c 1) (slotP c 2) (slotP_eq c 0) (slotP_eq c 1) (slotP_eq c 2)
end InOut0_0

/-- INTO THE RING: the launch's pieces — the scratch whole, the cells at zero, the operand whole — are the ring before its first step; -/
theorem ring_in (c : Dev nD) :
    iprop((∃ d, owns (c : Thread nD τ) sc26 fullShare d) ∗ (semVal ((c : Thread nD τ), SemLoc.dma 29) 0 ∗ semVal ((c : Thread nD τ), SemLoc.dma 30) 0 ∗ semVal ((c : Thread nD τ), SemLoc.dma 31) 0) ∗ ptOf c xM (V m c main_arg1))
      ⊢ ringAt c (V m c main_arg1) 0 := by
  unfold ringAt; rw [if_pos rfl]; unfold Ring.At₀
  rw [Ring.bigSep_fin3]
  simp only [Ring.free, cellP_0, cellP_1, cellP_2]
  iintro ⟨HS, Hc, HW⟩
  iapply Ring.with_homes₀
  icases Hc with ⟨H0, H1, H2⟩
  ihave HS' := (slots_in (F := F) c) $$ HS
  icases HS' with ⟨⟨%d0, HS0⟩, ⟨%d1, HS1⟩, ⟨%d2, HS2⟩⟩
  ihave HW' := (whole_split (F := F) c (V m c main_arg1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- From a point past the blocks on every slot is free; -/
theorem ring_past (c : Dev nD) (W : BufOf (F := F) c xM) (k : ℕ) (h : 64 ≤ k) :
    ringAt c W k = iprop(bigSep Finset.univ (noHome (F := F)) ∗ Ring.free (cellP c) (slotW c W) (Ring.sl 3 k)
      ∗ Ring.free (cellP c) (slotW c W) (Ring.sl 3 (k + 1)) ∗ Ring.free (cellP c) (slotW c W) (Ring.sl 3 (k + 2))) := by
  unfold ringAt; rw [if_neg (by omega), Ring.At_past_n _ _ _ _ _ [0, 1, 2] (by decide) (by decide) k h]; rfl
/-- which is what was handed in. -/
theorem ring_out (c : Dev nD) (k : ℕ) (h : 64 ≤ k) :
    ringAt c (V m c main_arg1) k
      ⊢ iprop((∃ d, owns (c : Thread nD τ) sc26 fullShare d) ∗ (semVal ((c : Thread nD τ), SemLoc.dma 29) 0 ∗ semVal ((c : Thread nD τ), SemLoc.dma 30) 0 ∗ semVal ((c : Thread nD τ), SemLoc.dma 31) 0) ∗ ptOf c xM (V m c main_arg1)) := by
  unfold ringAt; rw [if_neg (by omega), Ring.At_past_eq_free _ _ _ _ _ k h, Ring.bigSep_fin3]
  iintro H'
  simp only [Ring.free, cellP_0, cellP_1, cellP_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole_split (F := F) c (V m c main_arg1)).2; isplitl [HW0]; · iexact HW0
    isplitl [HW1]; · iexact HW1
    iexact HW2

/-! ### The body's operands at point `t` are the ring's slots, blocks and cells -/

section Canon
omit [FloatOps F]
theorem off_1 : ∀ t : Fin grid0.N, isFirst (grid0.coords t) → k0_off2 0#32 = ![(Ring.sl 3 t.val).val, 0, 0] := by decide +kernel
@[sl_canon] theorem canon_1 (t : Fin grid0.N) (h : isFirst (grid0.coords t)) :
    (sc26.slice (Rect.unit (s := S3x512x1024) (k0_off2 0#32) S1x512x1024.size (k0_off2_inb (grid0.coords t) h 0)) (fun _ => rfl)).squeeze S512x1024 squeezes_S1x512x1024_S512x1024 = slotM (Ring.sl 3 t.val) :=
  congrArg (fun M : Memref sig .tc .vmem S1x512x1024 .f32 => M.squeeze S512x1024 squeezes_S1x512x1024_S512x1024) (Memref.slice_unit_congr _ (off_1 t h) _ _ (fun _ => rfl) (fun _ => rfl))
theorem off_2 : ∀ t : Fin grid0.N, isFirst (grid0.coords t) → k0_off1 0#32 = ![(Ring.sl 3 t.val).val] := by decide +kernel
@[sl_canon] theorem canon_2 (t : Fin grid0.N) (h : isFirst (grid0.coords t)) :
    (cc0_scratch27.slice (Rect.unit (s := S3) (k0_off1 0#32) S1.size (k0_off1_inb (grid0.coords t) h 0))).squeeze S_ squeezes_S1_S_ = cellM (Ring.sl 3 t.val) :=
  congrArg (fun A : DmaSems sig S1 => A.squeeze S_ squeezes_S1_S_) (SemArray.slice_unit_congr _ (off_2 t h) _ _)
theorem off_3 : ∀ t : Fin grid0.N, isFirst (grid0.coords t) → k0_off3 0#32 0#32 = ![(Ring.bk 64 t.val).val / 8, 512 * ((Ring.bk 64 t.val).val % 8), 0] := by decide +kernel
@[sl_canon] theorem canon_3 (t : Fin grid0.N) (h : isFirst (grid0.coords t)) :
    (xM.slice (Rect.unit (s := S8x4096x1024) (k0_off3 0#32 0#32) S1x512x1024.size (k0_off3_inb (grid0.coords t) h 0)) (fun _ => rfl)).squeeze S512x1024 squeezes_S1x512x1024_S512x1024 = blockM (Ring.bk 64 t.val) :=
  congrArg (fun M : Memref sig .tc .hbm S1x512x1024 .f32 => M.squeeze S512x1024 squeezes_S1x512x1024_S512x1024) (Memref.slice_unit_congr _ (off_3 t h) _ _ (fun _ => rfl) (fun _ => rfl))
theorem off_4 : ∀ t : Fin grid0.N, isFirst (grid0.coords t) → k0_off2 1#32 = ![(Ring.sl 3 (t.val + 1)).val, 0, 0] := by decide +kernel
@[sl_canon] theorem canon_4 (t : Fin grid0.N) (h : isFirst (grid0.coords t)) :
    (sc26.slice (Rect.unit (s := S3x512x1024) (k0_off2 1#32) S1x512x1024.size (k0_off2_inb (grid0.coords t) h 1)) (fun _ => rfl)).squeeze S512x1024 squeezes_S1x512x1024_S512x1024 = slotM (Ring.sl 3 (t.val + 1)) :=
  congrArg (fun M : Memref sig .tc .vmem S1x512x1024 .f32 => M.squeeze S512x1024 squeezes_S1x512x1024_S512x1024) (Memref.slice_unit_congr _ (off_4 t h) _ _ (fun _ => rfl) (fun _ => rfl))
theorem off_5 : ∀ t : Fin grid0.N, isFirst (grid0.coords t) → k0_off1 1#32 = ![(Ring.sl 3 (t.val + 1)).val] := by decide +kernel
@[sl_canon] theorem canon_5 (t : Fin grid0.N) (h : isFirst (grid0.coords t)) :
    (cc0_scratch27.slice (Rect.unit (s := S3) (k0_off1 1#32) S1.size (k0_off1_inb (grid0.coords t) h 1))).squeeze S_ squeezes_S1_S_ = cellM (Ring.sl 3 (t.val + 1)) :=
  congrArg (fun A : DmaSems sig S1 => A.squeeze S_ squeezes_S1_S_) (SemArray.slice_unit_congr _ (off_5 t h) _ _)
theorem off_6 : ∀ t : Fin grid0.N, isFirst (grid0.coords t) → k0_off3 1#32 1#32 = ![(Ring.bk 64 (t.val + 1)).val / 8, 512 * ((Ring.bk 64 (t.val + 1)).val % 8), 0] := by decide +kernel
@[sl_canon] theorem canon_6 (t : Fin grid0.N) (h : isFirst (grid0.coords t)) :
    (xM.slice (Rect.unit (s := S8x4096x1024) (k0_off3 1#32 1#32) S1x512x1024.size (k0_off3_inb (grid0.coords t) h 1)) (fun _ => rfl)).squeeze S512x1024 squeezes_S1x512x1024_S512x1024 = blockM (Ring.bk 64 (t.val + 1)) :=
  congrArg (fun M : Memref sig .tc .hbm S1x512x1024 .f32 => M.squeeze S512x1024 squeezes_S1x512x1024_S512x1024) (Memref.slice_unit_congr _ (off_6 t h) _ _ (fun _ => rfl) (fun _ => rfl))
theorem off_7 : ∀ t : Fin grid0.N, hasBlock (grid0.coords t) → k0_off5 (grid0.coords t) = ![(Ring.sl 3 t.val).val, 0, 0] := by decide +kernel
@[sl_canon] theorem canon_7 (t : Fin grid0.N) (h : hasBlock (grid0.coords t)) :
    (sc26.slice (Rect.unit (s := S3x512x1024) (k0_off5 (grid0.coords t)) S1x512x1024.size (k0_off5_inb (grid0.coords t) h)) (fun _ => rfl)).squeeze S512x1024 squeezes_S1x512x1024_S512x1024 = slotM (Ring.sl 3 t.val) :=
  congrArg (fun M : Memref sig .tc .vmem S1x512x1024 .f32 => M.squeeze S512x1024 squeezes_S1x512x1024_S512x1024) (Memref.slice_unit_congr _ (off_7 t h) _ _ (fun _ => rfl) (fun _ => rfl))
theorem off_8 : ∀ t : Fin grid0.N, hasBlock (grid0.coords t) → k0_off4 (grid0.coords t) = ![(Ring.sl 3 t.val).val] := by decide +kernel
@[sl_canon] theorem canon_8 (t : Fin grid0.N) (h : hasBlock (grid0.coords t)) :
    (cc0_scratch27.slice (Rect.unit (s := S3) (k0_off4 (grid0.coords t)) S1.size (k0_off4_inb (grid0.coords t) h))).squeeze S_ squeezes_S1_S_ = cellM (Ring.sl 3 t.val) :=
  congrArg (fun A : DmaSems sig S1 => A.squeeze S_ squeezes_S1_S_) (SemArray.slice_unit_congr _ (off_8 t h) _ _)
theorem off_9 : ∀ t : Fin grid0.N, starts (grid0.coords t) → k0_off10 (grid0.coords t) = ![(Ring.sl 3 (t.val + 2)).val, 0, 0] := by decide +kernel
@[sl_canon] theorem canon_9 (t : Fin grid0.N) (h : starts (grid0.coords t)) :
    (sc26.slice (Rect.unit (s := S3x512x1024) (k0_off10 (grid0.coords t)) S1x512x1024.size (k0_off10_inb (grid0.coords t) h)) (fun _ => rfl)).squeeze S512x1024 squeezes_S1x512x1024_S512x1024 = slotM (Ring.sl 3 (t.val + 2)) :=
  congrArg (fun M : Memref sig .tc .vmem S1x512x1024 .f32 => M.squeeze S512x1024 squeezes_S1x512x1024_S512x1024) (Memref.slice_unit_congr _ (off_9 t h) _ _ (fun _ => rfl) (fun _ => rfl))
theorem off_10 : ∀ t : Fin grid0.N, starts (grid0.coords t) → k0_off9 (grid0.coords t) = ![(Ring.sl 3 (t.val + 2)).val] := by decide +kernel
@[sl_canon] theorem canon_10 (t : Fin grid0.N) (h : starts (grid0.coords t)) :
    (cc0_scratch27.slice (Rect.unit (s := S3) (k0_off9 (grid0.coords t)) S1.size (k0_off9_inb (grid0.coords t) h))).squeeze S_ squeezes_S1_S_ = cellM (Ring.sl 3 (t.val + 2)) :=
  congrArg (fun A : DmaSems sig S1 => A.squeeze S_ squeezes_S1_S_) (SemArray.slice_unit_congr _ (off_10 t h) _ _)
theorem off_11 : ∀ t : Fin grid0.N, starts (grid0.coords t) → k0_off11 (grid0.coords t) = ![(Ring.bk 64 (t.val + 2)).val / 8, 512 * ((Ring.bk 64 (t.val + 2)).val % 8), 0] := by decide +kernel
@[sl_canon] theorem canon_11 (t : Fin grid0.N) (h : starts (grid0.coords t)) :
    (xM.slice (Rect.unit (s := S8x4096x1024) (k0_off11 (grid0.coords t)) S1x512x1024.size (k0_off11_inb (grid0.coords t) h)) (fun _ => rfl)).squeeze S512x1024 squeezes_S1x512x1024_S512x1024 = blockM (Ring.bk 64 (t.val + 2)) :=
  congrArg (fun M : Memref sig .tc .hbm S1x512x1024 .f32 => M.squeeze S512x1024 squeezes_S1x512x1024_S512x1024) (Memref.slice_unit_congr _ (off_11 t h) _ _ (fun _ => rfl) (fun _ => rfl))
/-- The block the body reads is the one it waited for, while there is one; at the last point, the block of slot 0. -/
theorem read_off_7 : ∀ t : Fin grid0.N, hasBlock (grid0.coords t) → k0_off7 (grid0.coords t) = ![(Ring.sl 3 t.val).val, 0, 0] := by decide +kernel
theorem past_off_7 : ∀ t : Fin grid0.N, ¬hasBlock (grid0.coords t) → k0_off7 (grid0.coords t) = ![(Ring.sl 3 (t.val + 2)).val, 0, 0] := by decide +kernel
instance (priority := high) readOff_7 (t : Fin grid0.N) [h : Fact (hasBlock (grid0.coords t))] : ClosedOff (k0_off7 (grid0.coords t)) := ⟨![(Ring.sl 3 t.val).val, 0, 0], read_off_7 t h.out⟩
instance (priority := high) pastOff_7 (t : Fin grid0.N) [h : Fact (¬hasBlock (grid0.coords t))] : ClosedOff (k0_off7 (grid0.coords t)) := ⟨![(Ring.sl 3 (t.val + 2)).val, 0, 0], past_off_7 t h.out⟩
theorem read_off_8 : ∀ t : Fin grid0.N, hasBlock (grid0.coords t) → k0_off8 (grid0.coords t) = ![(Ring.sl 3 t.val).val, 0, 0] := by decide +kernel
theorem past_off_8 : ∀ t : Fin grid0.N, ¬hasBlock (grid0.coords t) → k0_off8 (grid0.coords t) = ![(Ring.sl 3 (t.val + 2)).val, 0, 0] := by decide +kernel
instance (priority := high) readOff_8 (t : Fin grid0.N) [h : Fact (hasBlock (grid0.coords t))] : ClosedOff (k0_off8 (grid0.coords t)) := ⟨![(Ring.sl 3 t.val).val, 0, 0], read_off_8 t h.out⟩
instance (priority := high) pastOff_8 (t : Fin grid0.N) [h : Fact (¬hasBlock (grid0.coords t))] : ClosedOff (k0_off8 (grid0.coords t)) := ⟨![(Ring.sl 3 (t.val + 2)).val, 0, 0], past_off_8 t h.out⟩
end Canon

/-! ## @main up to the region -/

set_option maxHeartbeats 800000 in
/-- @main up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1080000 in
/-- What a run leaves, read at the arguments. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 5 rfl).trans ((hA c 5).trans (V_main_arg6 m c)),
      (Pipeline.RDat.FramePost.arr_in h c 6 rfl).trans ((hA c 6).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

end Cert.Mixer.Own

end
-- ==== Proof.Mixer.First.lean ====
/- The mixer's body at the first point -/
module

public import proofs.«01_k».proof.Proof.Mixer.Base

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the first point: two blocks are started, the first is waited for, the third is started. -/
theorem run_first (c : Dev nD) (t : Fin cfg0.N) (h : t.val = 0) (a : Args) (x : Ins F) (y : Vec F S128x1024 .bf16) (X : BufOf (F := F) c xM)
    (W : Waits sig Unit) (K : PUnit → sProp 𝕄) :
    iprop(insHeld c a x ∗ outsHeld c a y ∗ scrHeld c a
        ∗ Ring.free (cellP c) (slotW c X) (Ring.sl 3 t.val)
        ∗ Ring.free (cellP c) (slotW c X) (Ring.sl 3 (t.val + 1))
        ∗ Ring.free (cellP c) (slotW c X) (Ring.sl 3 (t.val + 2))
        ∗ owes (c : Thread nD τ) 0 W
        ∗ (iprop(insHeld c a x ∗ outsLeft c a x (lastLeft t x y) ∗ scrHeld c a
            ∗ Ring.inflight (flightW c X) (Ring.sl 3 (t.val + 1)) (Ring.bk 64 (t.val + 1))
            ∗ Ring.inflight (flightW c X) (Ring.sl 3 (t.val + 2)) (Ring.bk 64 (t.val + 2))
            ∗ Ring.free (cellP c) (slotW c X) (Ring.sl 3 t.val)
            ∗ (∃ W', owes (c : Thread nD τ) 0 W')) -∗ K ⟨⟩))
      ⊢ wp frame (wpE (defs₀ (F := F)) Variants.none c none) Set.univ (bodyOn t a) K := by
  have hI := ins_open c a x; have hI' := ins_close c a x
  have hO := outs_open c a y; have hO' := outs_close c a x (lastLeft t x y)
  have hC := scr_open (F := F) c a; have hC' := @scr_close F _ c a
  obtain ⟨arg1, harg1, arg3, harg3, arg4, harg4, arg5, harg5, arg6, harg6, arg7, harg7, arg8, harg8, arg9, harg9, arg10, harg10, arg11, harg11,
    arg12, harg12, arg13, harg13, arg14, harg14, arg15, harg15, arg16, harg16, arg17, harg17, arg18, harg18, arg19, harg19, arg20, harg20,
    arg21, harg21, arg22, harg22, arg23, harg23, arg24, harg24, arg25, harg25, arg26, harg26, arg27, harg27, arg28, harg28, arg29, harg29,
    arg30, harg30, arg31, harg31, arg32, harg32, arg33, harg33, arg34, harg34, arg35, harg35, arg36, harg36, arg37, harg37, arg38, harg38,
    arg39, harg39, arg40, harg40, arg41, harg41, arg42, harg42, arg43, harg43, arg44, harg44, arg45, harg45⟩ := a
  dsimp only at hI hI' hO hO' hC hC'
  have hz : lastLeft t x y = k0_pay1158 x.x11 := if_pos (by omega)
  have hc0 : isFirst (grid0.coords t) := (isFirst_iff t).2 (by omega)
  have hc1 : hasBlock (grid0.coords t) := (hasBlock_iff t).2 (by omega)
  have hc2 : castsLast (grid0.coords t) := (castsLast_iff t).2 (by omega)
  have hc3 : clears (grid0.coords t) := (clears_iff t).2 (by omega)
  have hc4 : isEven (grid0.coords t) := (isEven_iff t).2 (by omega)
  have hc5 : ¬isOdd (grid0.coords t) := mt (isOdd_iff t).1 (by omega)
  have hc6 : starts (grid0.coords t) := (starts_iff t).2 (by omega)
  haveI := Fact.mk hc0
  haveI := Fact.mk hc1
  haveI := Fact.mk hc2
  haveI := Fact.mk hc3
  haveI := Fact.mk hc4
  haveI := Fact.mk hc5
  haveI := Fact.mk hc6
  unfold Ring.free Ring.inflight
  iintro ⟨HI, HO, HC, ⟨Hc0, ⟨%fs0, Hs0, Hw0⟩⟩, ⟨Hc1, ⟨%fs1, Hs1, Hw1⟩⟩, ⟨Hc2, ⟨%fs2, Hs2, Hw2⟩⟩, HW, Hk⟩
  ihave HI := hI $$ HI
  icases HI with ⟨H1, H3, H4, H5, H6, H7, H8, H9, H10, H11, H12, H13⟩
  ihave HO := hO $$ HO
  icases HO with ⟨⟨%f14, H14⟩, ⟨%f15, H15⟩, ⟨%f16, H16⟩, ⟨%f17, H17⟩, ⟨%f18, H18⟩, H19⟩
  ihave HC := hC $$ HC
  icases HC with ⟨⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩,
    ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩⟩
  ihave Hsp0 := (copy_split c X (Ring.sl 3 t.val) (Ring.bk 64 t.val)).1 $$ Hw0
  icases Hsp0 with ⟨Hh0, Hr0⟩
  ihave Hsp1 := (copy_split c X (Ring.sl 3 (t.val + 1)) (Ring.bk 64 (t.val + 1))).1 $$ Hw1
  icases Hsp1 with ⟨Hh1, Hr1⟩
  ihave Hsp2 := (copy_split c X (Ring.sl 3 (t.val + 2)) (Ring.bk 64 (t.val + 2))).1 $$ Hw2
  icases Hsp2 with ⟨Hh2, Hr2⟩
  unfold bodyOn; dsimp only
  simp only [cc0_mixer_eq_skeleton]; unfold cc0_mixer_skel
  simp only [k0_part161_eq_skeleton, k0_part1_eq_skeleton, k0_part2_eq_skeleton, k0_part81_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton, k0_part27_eq_skeleton, k0_part28_eq_skeleton,
    k0_part29_eq_skeleton, k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton, k0_part46_eq_skeleton,
    k0_part47_eq_skeleton, k0_part48_eq_skeleton, k0_part49_eq_skeleton, k0_part50_eq_skeleton, k0_part51_eq_skeleton, k0_part52_eq_skeleton,
    k0_part53_eq_skeleton, k0_part54_eq_skeleton, k0_part55_eq_skeleton, k0_part56_eq_skeleton, k0_part57_eq_skeleton, k0_part58_eq_skeleton,
    k0_part59_eq_skeleton, k0_part60_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton, k0_part76_eq_skeleton,
    k0_part77_eq_skeleton, k0_part78_eq_skeleton, k0_part79_eq_skeleton, k0_part80_eq_skeleton]
  sl_exec (disch := first | sl_exact hc0 | sl_exact hc1 | sl_exact hc2 | sl_exact hc3 | sl_exact hc4 | sl_exact hc5 | sl_exact hc6)
  simp only [canon_9 t hc6, canon_10 t hc6, canon_11 t hc6]
  sl_exec (disch := sl_exact hc6)
  sl_step
  iapply Hk
  isplitl [H1 H3 H4 H5 H6 H7 H8 H9 H10 H11 H12 H13]
  · iapply hI' $$ H1 H3 H4 H5 H6 H7 H8 H9 H10 H11 H12 H13
  isplitl [H14 H15 H16 H17 H18 H19]
  · iapply hO'
    isplitl [H14]; · iexists _; iexact H14
    isplitl [H15]
    · unfold owns; iexists _; isplitr; swap; · iexact H15
      ipureintro; exact (View.read_writes_full _ _ _ _ _).trans (congrArg k0_pay1154 (load_whole harg9 _ _))
    isplitl [H16]
    · unfold owns; iexists _; isplitr; swap; · iexact H16
      ipureintro; exact (View.read_writes_full _ _ _ _ _).trans (congrArg k0_pay1155 (load_whole harg10 _ _))
    isplitl [H17]
    · unfold owns; iexists _; isplitr; swap; · iexact H17
      ipureintro; exact (View.read_writes_full _ _ _ _ _).trans (congrArg k0_pay1156 (load_whole harg11 _ _))
    isplitl [H18]
    · unfold owns; iexists _; isplitr; swap; · iexact H18
      ipureintro; exact (View.read_writes_full _ _ _ _ _).trans (congrArg k0_pay1157 (load_whole harg12 _ _))
    unfold owns; iexists _; isplitr; swap; · iexact H19
    ipureintro; exact ((View.read_writes_full _ _ _ _ _).trans (congrArg k0_pay1158 (load_whole harg13 _ _))).trans hz.symm
  isplitl [H20 H21 H22 H23 H24 H25 H26 H27 H28 H29 H30 H31 H32 H33 H34 H35 H36 H37 H38 H39 H40 H41 H42 H43 H44 H45]
  · iapply hC' $$ H20 H21 H22 H23 H24 H25 H26 H27 H28 H29 H30 H31 H32 H33 H34 H35 H36 H37 H38 H39 H40 H41 H42 H43 H44 H45
  isplitl [Hc1 Hr1]
  · iexists _; isplitl [Hc1]; · iexact Hc1
    iexact Hr1
  isplitl [Hc2 Hr2]
  · iexists _; isplitl [Hc2]; · iexact Hc2
    iexact Hr2
  isplitl [Hc0 Hs0 Hh0 Hr0]
  · isplitl [Hc0]; · iexact Hc0
    iexists _; isplitl [Hs0]; · iexact Hs0
    iapply (copy_split c X (Ring.sl 3 t.val) (Ring.bk 64 t.val)).2; isplitl [Hh0]; · iexact Hh0
    iexact Hr0
  iexists _; iexact HW

end Cert.Mixer.Own

end
-- ==== Proof.Mixer.Step.lean ====
/- The mixer's body at a point with a block to wait for and one to start -/
module

public import proofs.«01_k».proof.Proof.Mixer.Base

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 40000000 in
/-- The body at a point that waits for a block and starts one: even or odd, with a share of the last weight to cast or without. -/
theorem run_step (c : Dev nD) (t : Fin cfg0.N) (h₁ : t.val ≠ 0) (h₂ : t.val < 62) (a : Args) (x : Ins F) (y : Vec F S128x1024 .bf16) (X : BufOf (F := F) c xM)
    (W : Waits sig Unit) (K : PUnit → sProp 𝕄) :
    iprop(insHeld c a x ∗ outsHeld c a y ∗ scrHeld c a
        ∗ Ring.inflight (flightW c X) (Ring.sl 3 t.val) (Ring.bk 64 t.val)
        ∗ Ring.inflight (flightW c X) (Ring.sl 3 (t.val + 1)) (Ring.bk 64 (t.val + 1))
        ∗ Ring.free (cellP c) (slotW c X) (Ring.sl 3 (t.val + 2))
        ∗ owes (c : Thread nD τ) 0 W
        ∗ (iprop(insHeld c a x ∗ outsLeft c a x (lastLeft t x y) ∗ scrHeld c a
            ∗ Ring.inflight (flightW c X) (Ring.sl 3 (t.val + 1)) (Ring.bk 64 (t.val + 1))
            ∗ Ring.inflight (flightW c X) (Ring.sl 3 (t.val + 2)) (Ring.bk 64 (t.val + 2))
            ∗ Ring.free (cellP c) (slotW c X) (Ring.sl 3 t.val)
            ∗ (∃ W', owes (c : Thread nD τ) 0 W')) -∗ K ⟨⟩))
      ⊢ wp frame (wpE (defs₀ (F := F)) Variants.none c none) Set.univ (bodyOn t a) K := by
  have hI := ins_open c a x; have hI' := ins_close c a x
  have hO := outs_open c a y; have hO' := outs_close c a x (lastLeft t x y)
  have hC := scr_open (F := F) c a; have hC' := @scr_close F _ c a
  obtain ⟨arg1, harg1, arg3, harg3, arg4, harg4, arg5, harg5, arg6, harg6, arg7, harg7, arg8, harg8, arg9, harg9, arg10, harg10, arg11, harg11,
    arg12, harg12, arg13, harg13, arg14, harg14, arg15, harg15, arg16, harg16, arg17, harg17, arg18, harg18, arg19, harg19, arg20, harg20,
    arg21, harg21, arg22, harg22, arg23, harg23, arg24, harg24, arg25, harg25, arg26, harg26, arg27, harg27, arg28, harg28, arg29, harg29,
    arg30, harg30, arg31, harg31, arg32, harg32, arg33, harg33, arg34, harg34, arg35, harg35, arg36, harg36, arg37, harg37, arg38, harg38,
    arg39, harg39, arg40, harg40, arg41, harg41, arg42, harg42, arg43, harg43, arg44, harg44, arg45, harg45⟩ := a
  dsimp only at hI hI' hO hO' hC hC'
  have hc0 : ¬isFirst (grid0.coords t) := mt (isFirst_iff t).1 (by omega)
  have hc1 : hasBlock (grid0.coords t) := (hasBlock_iff t).2 (by omega)
  have hc3 : ¬clears (grid0.coords t) := mt (clears_iff t).1 (by omega)
  have hc6 : starts (grid0.coords t) := (starts_iff t).2 (by omega)
  obtain ⟨hc4, hc5⟩ | ⟨hc4, hc5⟩ : (isEven (grid0.coords t) ∧ ¬isOdd (grid0.coords t)) ∨ (¬isEven (grid0.coords t) ∧ isOdd (grid0.coords t)) := by
    rw [isEven_iff, isOdd_iff]; omega
  all_goals by_cases hc2 : castsLast (grid0.coords t)
  all_goals (
    haveI := Fact.mk hc0
    haveI := Fact.mk hc1
    haveI := Fact.mk hc2
    haveI := Fact.mk hc3
    haveI := Fact.mk hc4
    haveI := Fact.mk hc5
    haveI := Fact.mk hc6
    unfold Ring.free Ring.inflight
    iintro ⟨HI, HO, HC, ⟨%ff0, Hf0, Hrf0⟩, ⟨%ff1, Hf1, Hrf1⟩, ⟨Hc2, ⟨%fs2, Hs2, Hw2⟩⟩, HW, Hk⟩
    ihave HI := hI $$ HI
    icases HI with ⟨H1, H3, H4, H5, H6, H7, H8, H9, H10, H11, H12, H13⟩
    ihave HO := hO $$ HO
    icases HO with ⟨⟨%f14, H14⟩, ⟨%f15, H15⟩, ⟨%f16, H16⟩, ⟨%f17, H17⟩, ⟨%f18, H18⟩, H19⟩
    ihave HC := hC $$ HC
    icases HC with ⟨⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩,
      ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩⟩
    ihave Hsp2 := (copy_split c X (Ring.sl 3 (t.val + 2)) (Ring.bk 64 (t.val + 2))).1 $$ Hw2
    icases Hsp2 with ⟨Hh2, Hr2⟩
    unfold bodyOn; dsimp only
    simp only [cc0_mixer_eq_skeleton]; unfold cc0_mixer_skel
    simp only [k0_part161_eq_skeleton, k0_part1_eq_skeleton, k0_part81_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part160_eq_skeleton, k0_part82_eq_skeleton, k0_part83_eq_skeleton,
      k0_part84_eq_skeleton, k0_part85_eq_skeleton, k0_part86_eq_skeleton, k0_part87_eq_skeleton, k0_part88_eq_skeleton, k0_part89_eq_skeleton,
      k0_part90_eq_skeleton, k0_part91_eq_skeleton, k0_part92_eq_skeleton, k0_part93_eq_skeleton, k0_part94_eq_skeleton, k0_part95_eq_skeleton,
      k0_part96_eq_skeleton, k0_part97_eq_skeleton, k0_part98_eq_skeleton, k0_part99_eq_skeleton, k0_part100_eq_skeleton, k0_part101_eq_skeleton,
      k0_part102_eq_skeleton, k0_part103_eq_skeleton, k0_part104_eq_skeleton, k0_part105_eq_skeleton, k0_part106_eq_skeleton, k0_part107_eq_skeleton,
      k0_part108_eq_skeleton, k0_part109_eq_skeleton, k0_part110_eq_skeleton, k0_part111_eq_skeleton, k0_part112_eq_skeleton, k0_part113_eq_skeleton,
      k0_part114_eq_skeleton, k0_part115_eq_skeleton, k0_part116_eq_skeleton, k0_part117_eq_skeleton, k0_part118_eq_skeleton, k0_part119_eq_skeleton,
      k0_part120_eq_skeleton, k0_part121_eq_skeleton, k0_part122_eq_skeleton, k0_part123_eq_skeleton, k0_part124_eq_skeleton, k0_part125_eq_skeleton,
      k0_part126_eq_skeleton, k0_part127_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton, k0_part137_eq_skeleton,
      k0_part138_eq_skeleton, k0_part139_eq_skeleton, k0_part140_eq_skeleton, k0_part141_eq_skeleton, k0_part142_eq_skeleton, k0_part143_eq_skeleton,
      k0_part144_eq_skeleton, k0_part145_eq_skeleton, k0_part146_eq_skeleton, k0_part147_eq_skeleton, k0_part148_eq_skeleton, k0_part149_eq_skeleton,
      k0_part150_eq_skeleton, k0_part151_eq_skeleton, k0_part152_eq_skeleton, k0_part153_eq_skeleton, k0_part154_eq_skeleton, k0_part155_eq_skeleton,
      k0_part156_eq_skeleton, k0_part157_eq_skeleton, k0_part158_eq_skeleton, k0_part159_eq_skeleton]
    sl_exec (disch := first | sl_exact hc0 | sl_exact hc1 | sl_exact hc2 | sl_exact hc3 | sl_exact hc4 | sl_exact hc5 | sl_exact hc6)
    simp only [canon_9 t hc6, canon_10 t hc6, canon_11 t hc6]
    sl_exec (disch := sl_exact hc6)
    sl_step
    iapply Hk
    isplitl [H1 H3 H4 H5 H6 H7 H8 H9 H10 H11 H12 H13]
    · iapply hI' $$ H1 H3 H4 H5 H6 H7 H8 H9 H10 H11 H12 H13
    isplitl [H14 H15 H16 H17 H18 H19]
    · iapply hO'
      isplitl [H14]; · iexists _; iexact H14
      isplitl [H15]
      · unfold owns; iexists _; isplitr; swap; · iexact H15
        ipureintro; exact (View.read_writes_full _ _ _ _ _).trans (congrArg k0_pay1154 (load_whole harg9 _ _))
      isplitl [H16]
      · unfold owns; iexists _; isplitr; swap; · iexact H16
        ipureintro; exact (View.read_writes_full _ _ _ _ _).trans (congrArg k0_pay1155 (load_whole harg10 _ _))
      isplitl [H17]
      · unfold owns; iexists _; isplitr; swap; · iexact H17
        ipureintro; exact (View.read_writes_full _ _ _ _ _).trans (congrArg k0_pay1156 (load_whole harg11 _ _))
      isplitl [H18]
      · unfold owns; iexists _; isplitr; swap; · iexact H18
        ipureintro; exact (View.read_writes_full _ _ _ _ _).trans (congrArg k0_pay1157 (load_whole harg12 _ _))
      unfold owns; iexists _; isplitr; swap; · iexact H19
      ipureintro; first | exact ((View.read_writes_full _ _ _ _ _).trans (congrArg k0_pay1158 (load_whole harg13 _ _))).trans (if_pos ((castsLast_iff t).1 hc2)).symm | exact (harg19.read_unread y).trans (if_neg (mt (castsLast_iff t).2 hc2)).symm
    isplitl [H20 H21 H22 H23 H24 H25 H26 H27 H28 H29 H30 H31 H32 H33 H34 H35 H36 H37 H38 H39 H40 H41 H42 H43 H44 H45]
    · iapply hC' $$ H20 H21 H22 H23 H24 H25 H26 H27 H28 H29 H30 H31 H32 H33 H34 H35 H36 H37 H38 H39 H40 H41 H42 H43 H44 H45
    isplitl [Hf1 Hrf1]
    · iexists _; isplitl [Hf1]; · iexact Hf1
      iexact Hrf1
    isplitl [Hc2 Hr2]
    · iexists _; isplitl [Hc2]; · iexact Hc2
      iexact Hr2
    isplitl [Hf0 Hf0_dst Hf0_src Hrf0]
    · isplitl [Hf0]; · iexact Hf0
      iexists _; isplitl [Hf0_dst]; · iexact Hf0_dst
      iapply (copy_split c X (Ring.sl 3 t.val) (Ring.bk 64 t.val)).2; isplitl [Hf0_src]; · iexact Hf0_src
      iexact Hrf0
    iexists _; iexact HW)

end Cert.Mixer.Own

end
-- ==== Proof.Mixer.Last.lean ====
/- The mixer's body at a point with a block to wait for and none to start -/
module

public import proofs.«01_k».proof.Proof.Mixer.Base

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at a point that waits for a block and starts none: what the slot of the next block holds stays as it is. -/
theorem run_last (c : Dev nD) (t : Fin cfg0.N) (h₁ : 62 ≤ t.val) (h₂ : t.val < 64) (a : Args) (x : Ins F) (y : Vec F S128x1024 .bf16) (X : BufOf (F := F) c xM)
    (W : Waits sig Unit) (K : PUnit → sProp 𝕄) :
    iprop(insHeld c a x ∗ outsHeld c a y ∗ scrHeld c a
        ∗ Ring.inflight (flightW c X) (Ring.sl 3 t.val) (Ring.bk 64 t.val)
        ∗ Ring.slotAt 2 (cellP c) (slotW c X) (flightW c X) t.val 1
        ∗ Ring.free (cellP c) (slotW c X) (Ring.sl 3 (t.val + 2))
        ∗ owes (c : Thread nD τ) 0 W
        ∗ (iprop(insHeld c a x ∗ outsLeft c a x (lastLeft t x y) ∗ scrHeld c a
            ∗ Ring.slotAt 2 (cellP c) (slotW c X) (flightW c X) t.val 1
            ∗ Ring.free (cellP c) (slotW c X) (Ring.sl 3 (t.val + 2))
            ∗ Ring.free (cellP c) (slotW c X) (Ring.sl 3 t.val)
            ∗ (∃ W', owes (c : Thread nD τ) 0 W')) -∗ K ⟨⟩))
      ⊢ wp frame (wpE (defs₀ (F := F)) Variants.none c none) Set.univ (bodyOn t a) K := by
  have hI := ins_open c a x; have hI' := ins_close c a x
  have hO := outs_open c a y; have hO' := outs_close c a x (lastLeft t x y)
  have hC := scr_open (F := F) c a; have hC' := @scr_close F _ c a
  obtain ⟨arg1, harg1, arg3, harg3, arg4, harg4, arg5, harg5, arg6, harg6, arg7, harg7, arg8, harg8, arg9, harg9, arg10, harg10, arg11, harg11,
    arg12, harg12, arg13, harg13, arg14, harg14, arg15, harg15, arg16, harg16, arg17, harg17, arg18, harg18, arg19, harg19, arg20, harg20,
    arg21, harg21, arg22, harg22, arg23, harg23, arg24, harg24, arg25, harg25, arg26, harg26, arg27, harg27, arg28, harg28, arg29, harg29,
    arg30, harg30, arg31, harg31, arg32, harg32, arg33, harg33, arg34, harg34, arg35, harg35, arg36, harg36, arg37, harg37, arg38, harg38,
    arg39, harg39, arg40, harg40, arg41, harg41, arg42, harg42, arg43, harg43, arg44, harg44, arg45, harg45⟩ := a
  dsimp only at hI hI' hO hO' hC hC'
  have hz : lastLeft t x y = y := if_neg (by omega)
  have hc0 : ¬isFirst (grid0.coords t) := mt (isFirst_iff t).1 (by omega)
  have hc1 : hasBlock (grid0.coords t) := (hasBlock_iff t).2 (by omega)
  have hc2 : ¬castsLast (grid0.coords t) := mt (castsLast_iff t).1 (by omega)
  have hc3 : ¬clears (grid0.coords t) := mt (clears_iff t).1 (by omega)
  have hc6 : ¬starts (grid0.coords t) := mt (starts_iff t).1 (by omega)
  obtain ⟨hc4, hc5⟩ | ⟨hc4, hc5⟩ : (isEven (grid0.coords t) ∧ ¬isOdd (grid0.coords t)) ∨ (¬isEven (grid0.coords t) ∧ isOdd (grid0.coords t)) := by
    rw [isEven_iff, isOdd_iff]; omega
  all_goals (
    haveI := Fact.mk hc0
    haveI := Fact.mk hc1
    haveI := Fact.mk hc2
    haveI := Fact.mk hc3
    haveI := Fact.mk hc4
    haveI := Fact.mk hc5
    haveI := Fact.mk hc6
    unfold Ring.free Ring.inflight
    iintro ⟨HI, HO, HC, ⟨%ff0, Hf0, Hrf0⟩, Hro, ⟨Hc2, ⟨%fs2, Hs2, Hw2⟩⟩, HW, Hk⟩
    ihave HI := hI $$ HI
    icases HI with ⟨H1, H3, H4, H5, H6, H7, H8, H9, H10, H11, H12, H13⟩
    ihave HO := hO $$ HO
    icases HO with ⟨⟨%f14, H14⟩, ⟨%f15, H15⟩, ⟨%f16, H16⟩, ⟨%f17, H17⟩, ⟨%f18, H18⟩, H19⟩
    ihave HC := hC $$ HC
    icases HC with ⟨⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩,
      ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩⟩
    unfold bodyOn; dsimp only
    simp only [cc0_mixer_eq_skeleton]; unfold cc0_mixer_skel
    simp only [k0_part161_eq_skeleton, k0_part1_eq_skeleton, k0_part81_eq_skeleton, k0_part3_eq_skeleton, k0_part4_eq_skeleton, k0_part5_eq_skeleton,
      k0_part6_eq_skeleton, k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part48_eq_skeleton, k0_part49_eq_skeleton, k0_part50_eq_skeleton, k0_part51_eq_skeleton, k0_part52_eq_skeleton, k0_part53_eq_skeleton,
      k0_part54_eq_skeleton, k0_part55_eq_skeleton, k0_part56_eq_skeleton, k0_part57_eq_skeleton, k0_part58_eq_skeleton, k0_part59_eq_skeleton,
      k0_part60_eq_skeleton, k0_part61_eq_skeleton, k0_part62_eq_skeleton, k0_part63_eq_skeleton, k0_part64_eq_skeleton, k0_part65_eq_skeleton,
      k0_part66_eq_skeleton, k0_part67_eq_skeleton, k0_part68_eq_skeleton, k0_part69_eq_skeleton, k0_part70_eq_skeleton, k0_part71_eq_skeleton,
      k0_part72_eq_skeleton, k0_part73_eq_skeleton, k0_part74_eq_skeleton, k0_part75_eq_skeleton, k0_part76_eq_skeleton, k0_part77_eq_skeleton,
      k0_part78_eq_skeleton, k0_part79_eq_skeleton, k0_part80_eq_skeleton, k0_part160_eq_skeleton, k0_part82_eq_skeleton, k0_part83_eq_skeleton,
      k0_part84_eq_skeleton, k0_part85_eq_skeleton, k0_part86_eq_skeleton, k0_part87_eq_skeleton, k0_part88_eq_skeleton, k0_part89_eq_skeleton,
      k0_part90_eq_skeleton, k0_part91_eq_skeleton, k0_part92_eq_skeleton, k0_part93_eq_skeleton, k0_part94_eq_skeleton, k0_part95_eq_skeleton,
      k0_part96_eq_skeleton, k0_part97_eq_skeleton, k0_part98_eq_skeleton, k0_part99_eq_skeleton, k0_part100_eq_skeleton, k0_part101_eq_skeleton,
      k0_part102_eq_skeleton, k0_part103_eq_skeleton, k0_part104_eq_skeleton, k0_part105_eq_skeleton, k0_part106_eq_skeleton, k0_part107_eq_skeleton,
      k0_part108_eq_skeleton, k0_part109_eq_skeleton, k0_part110_eq_skeleton, k0_part111_eq_skeleton, k0_part112_eq_skeleton, k0_part113_eq_skeleton,
      k0_part114_eq_skeleton, k0_part115_eq_skeleton, k0_part116_eq_skeleton, k0_part117_eq_skeleton, k0_part118_eq_skeleton, k0_part119_eq_skeleton,
      k0_part120_eq_skeleton, k0_part121_eq_skeleton, k0_part122_eq_skeleton, k0_part123_eq_skeleton, k0_part124_eq_skeleton, k0_part125_eq_skeleton,
      k0_part126_eq_skeleton, k0_part127_eq_skeleton, k0_part128_eq_skeleton, k0_part129_eq_skeleton, k0_part130_eq_skeleton, k0_part131_eq_skeleton,
      k0_part132_eq_skeleton, k0_part133_eq_skeleton, k0_part134_eq_skeleton, k0_part135_eq_skeleton, k0_part136_eq_skeleton, k0_part137_eq_skeleton,
      k0_part138_eq_skeleton, k0_part139_eq_skeleton, k0_part140_eq_skeleton, k0_part141_eq_skeleton, k0_part142_eq_skeleton, k0_part143_eq_skeleton,
      k0_part144_eq_skeleton, k0_part145_eq_skeleton, k0_part146_eq_skeleton, k0_part147_eq_skeleton, k0_part148_eq_skeleton, k0_part149_eq_skeleton,
      k0_part150_eq_skeleton, k0_part151_eq_skeleton, k0_part152_eq_skeleton, k0_part153_eq_skeleton, k0_part154_eq_skeleton, k0_part155_eq_skeleton,
      k0_part156_eq_skeleton, k0_part157_eq_skeleton, k0_part158_eq_skeleton, k0_part159_eq_skeleton]
    sl_exec (disch := first | sl_exact hc0 | sl_exact hc1 | sl_exact hc2 | sl_exact hc3 | sl_exact hc4 | sl_exact hc5 | sl_exact hc6)
    sl_step
    iapply Hk
    isplitl [H1 H3 H4 H5 H6 H7 H8 H9 H10 H11 H12 H13]
    · iapply hI' $$ H1 H3 H4 H5 H6 H7 H8 H9 H10 H11 H12 H13
    isplitl [H14 H15 H16 H17 H18 H19]
    · iapply hO'
      isplitl [H14]; · iexists _; iexact H14
      isplitl [H15]
      · unfold owns; iexists _; isplitr; swap; · iexact H15
        ipureintro; exact (View.read_writes_full _ _ _ _ _).trans (congrArg k0_pay1154 (load_whole harg9 _ _))
      isplitl [H16]
      · unfold owns; iexists _; isplitr; swap; · iexact H16
        ipureintro; exact (View.read_writes_full _ _ _ _ _).trans (congrArg k0_pay1155 (load_whole harg10 _ _))
      isplitl [H17]
      · unfold owns; iexists _; isplitr; swap; · iexact H17
        ipureintro; exact (View.read_writes_full _ _ _ _ _).trans (congrArg k0_pay1156 (load_whole harg11 _ _))
      isplitl [H18]
      · unfold owns; iexists _; isplitr; swap; · iexact H18
        ipureintro; exact (View.read_writes_full _ _ _ _ _).trans (congrArg k0_pay1157 (load_whole harg12 _ _))
      unfold owns; iexists _; isplitr; swap; · iexact H19
      ipureintro; exact (harg19.read_unread y).trans hz.symm
    isplitl [H20 H21 H22 H23 H24 H25 H26 H27 H28 H29 H30 H31 H32 H33 H34 H35 H36 H37 H38 H39 H40 H41 H42 H43 H44 H45]
    · iapply hC' $$ H20 H21 H22 H23 H24 H25 H26 H27 H28 H29 H30 H31 H32 H33 H34 H35 H36 H37 H38 H39 H40 H41 H42 H43 H44 H45
    isplitl [Hro]; · iexact Hro
    isplitl [Hc2 Hs2 Hw2]
    · isplitl [Hc2]; · iexact Hc2
      iexists _; isplitl [Hs2]; · iexact Hs2
      iexact Hw2
    isplitl [Hf0 Hf0_dst Hf0_src Hrf0]
    · isplitl [Hf0]; · iexact Hf0
      iexists _; isplitl [Hf0_dst]; · iexact Hf0_dst
      iapply (copy_split c X (Ring.sl 3 t.val) (Ring.bk 64 t.val)).2; isplitl [Hf0_src]; · iexact Hf0_src
      iexact Hrf0
    iexists _; iexact HW)

end Cert.Mixer.Own

end
-- ==== Proof.Mixer.Past.lean ====
/- The mixer's body at the point past the last block -/
module

public import proofs.«01_k».proof.Proof.Mixer.Base

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at the last point: every block has been read, and it works on the set the point before it filled. -/
theorem run_past (c : Dev nD) (t : Fin cfg0.N) (h : t.val = 64) (a : Args) (x : Ins F) (y : Vec F S128x1024 .bf16) (X : BufOf (F := F) c xM)
    (W : Waits sig Unit) (K : PUnit → sProp 𝕄) :
    iprop(insHeld c a x ∗ outsHeld c a y ∗ scrHeld c a
        ∗ Ring.free (cellP c) (slotW c X) (Ring.sl 3 t.val)
        ∗ Ring.free (cellP c) (slotW c X) (Ring.sl 3 (t.val + 1))
        ∗ Ring.free (cellP c) (slotW c X) (Ring.sl 3 (t.val + 2))
        ∗ owes (c : Thread nD τ) 0 W
        ∗ (iprop(insHeld c a x ∗ outsLeft c a x (lastLeft t x y) ∗ scrHeld c a
            ∗ Ring.free (cellP c) (slotW c X) (Ring.sl 3 t.val)
            ∗ Ring.free (cellP c) (slotW c X) (Ring.sl 3 (t.val + 1))
            ∗ Ring.free (cellP c) (slotW c X) (Ring.sl 3 (t.val + 2))
            ∗ (∃ W', owes (c : Thread nD τ) 0 W')) -∗ K ⟨⟩))
      ⊢ wp frame (wpE (defs₀ (F := F)) Variants.none c none) Set.univ (bodyOn t a) K := by
  have hI := ins_open c a x; have hI' := ins_close c a x
  have hO := outs_open c a y; have hO' := outs_close c a x (lastLeft t x y)
  have hC := scr_open (F := F) c a; have hC' := @scr_close F _ c a
  obtain ⟨arg1, harg1, arg3, harg3, arg4, harg4, arg5, harg5, arg6, harg6, arg7, harg7, arg8, harg8, arg9, harg9, arg10, harg10, arg11, harg11,
    arg12, harg12, arg13, harg13, arg14, harg14, arg15, harg15, arg16, harg16, arg17, harg17, arg18, harg18, arg19, harg19, arg20, harg20,
    arg21, harg21, arg22, harg22, arg23, harg23, arg24, harg24, arg25, harg25, arg26, harg26, arg27, harg27, arg28, harg28, arg29, harg29,
    arg30, harg30, arg31, harg31, arg32, harg32, arg33, harg33, arg34, harg34, arg35, harg35, arg36, harg36, arg37, harg37, arg38, harg38,
    arg39, harg39, arg40, harg40, arg41, harg41, arg42, harg42, arg43, harg43, arg44, harg44, arg45, harg45⟩ := a
  dsimp only at hI hI' hO hO' hC hC'
  have hz : lastLeft t x y = y := if_neg (by omega)
  have hc0 : ¬isFirst (grid0.coords t) := mt (isFirst_iff t).1 (by omega)
  have hc1 : ¬hasBlock (grid0.coords t) := mt (hasBlock_iff t).1 (by omega)
  have hc2 : ¬castsLast (grid0.coords t) := mt (castsLast_iff t).1 (by omega)
  have hc3 : ¬clears (grid0.coords t) := mt (clears_iff t).1 (by omega)
  have hc4 : isEven (grid0.coords t) := (isEven_iff t).2 (by omega)
  have hc5 : ¬isOdd (grid0.coords t) := mt (isOdd_iff t).1 (by omega)
  have hc6 : ¬starts (grid0.coords t) := mt (starts_iff t).1 (by omega)
  haveI := Fact.mk hc0
  haveI := Fact.mk hc1
  haveI := Fact.mk hc2
  haveI := Fact.mk hc3
  haveI := Fact.mk hc4
  haveI := Fact.mk hc5
  haveI := Fact.mk hc6
  unfold Ring.free
  iintro ⟨HI, HO, HC, ⟨Hc0, ⟨%fs0, Hs0, Hw0⟩⟩, ⟨Hc1, ⟨%fs1, Hs1, Hw1⟩⟩, ⟨Hc2, ⟨%fs2, Hs2, Hw2⟩⟩, HW, Hk⟩
  ihave HI := hI $$ HI
  icases HI with ⟨H1, H3, H4, H5, H6, H7, H8, H9, H10, H11, H12, H13⟩
  ihave HO := hO $$ HO
  icases HO with ⟨⟨%f14, H14⟩, ⟨%f15, H15⟩, ⟨%f16, H16⟩, ⟨%f17, H17⟩, ⟨%f18, H18⟩, H19⟩
  ihave HC := hC $$ HC
  icases HC with ⟨⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩,
    ⟨%f33, H33⟩, ⟨%f34, H34⟩, ⟨%f35, H35⟩, ⟨%f36, H36⟩, ⟨%f37, H37⟩, ⟨%f38, H38⟩, ⟨%f39, H39⟩, ⟨%f40, H40⟩, ⟨%f41, H41⟩, ⟨%f42, H42⟩, ⟨%f43, H43⟩, ⟨%f44, H44⟩, ⟨%f45, H45⟩⟩
  unfold bodyOn; dsimp only
  simp only [cc0_mixer_eq_skeleton]; unfold cc0_mixer_skel
  simp only [k0_part161_eq_skeleton, k0_part1_eq_skeleton, k0_part81_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton, k0_part59_eq_skeleton,
    k0_part60_eq_skeleton, k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton, k0_part71_eq_skeleton,
    k0_part72_eq_skeleton, k0_part73_eq_skeleton, k0_part74_eq_skeleton, k0_part75_eq_skeleton, k0_part76_eq_skeleton, k0_part77_eq_skeleton,
    k0_part78_eq_skeleton, k0_part79_eq_skeleton, k0_part80_eq_skeleton]
  sl_exec (disch := first | sl_exact hc0 | sl_exact hc1 | sl_exact hc2 | sl_exact hc3 | sl_exact hc4 | sl_exact hc5 | sl_exact hc6)
  sl_step
  iapply Hk
  isplitl [H1 H3 H4 H5 H6 H7 H8 H9 H10 H11 H12 H13]
  · iapply hI' $$ H1 H3 H4 H5 H6 H7 H8 H9 H10 H11 H12 H13
  isplitl [H14 H15 H16 H17 H18 H19]
  · iapply hO'
    isplitl [H14]; · iexists _; iexact H14
    isplitl [H15]
    · unfold owns; iexists _; isplitr; swap; · iexact H15
      ipureintro; exact (View.read_writes_full _ _ _ _ _).trans (congrArg k0_pay1154 (load_whole harg9 _ _))
    isplitl [H16]
    · unfold owns; iexists _; isplitr; swap; · iexact H16
      ipureintro; exact (View.read_writes_full _ _ _ _ _).trans (congrArg k0_pay1155 (load_whole harg10 _ _))
    isplitl [H17]
    · unfold owns; iexists _; isplitr; swap; · iexact H17
      ipureintro; exact (View.read_writes_full _ _ _ _ _).trans (congrArg k0_pay1156 (load_whole harg11 _ _))
    isplitl [H18]
    · unfold owns; iexists _; isplitr; swap; · iexact H18
      ipureintro; exact (View.read_writes_full _ _ _ _ _).trans (congrArg k0_pay1157 (load_whole harg12 _ _))
    unfold owns; iexists _; isplitr; swap; · iexact H19
    ipureintro; exact (harg19.read_unread y).trans hz.symm
  isplitl [H20 H21 H22 H23 H24 H25 H26 H27 H28 H29 H30 H31 H32 H33 H34 H35 H36 H37 H38 H39 H40 H41 H42 H43 H44 H45]
  · iapply hC' $$ H20 H21 H22 H23 H24 H25 H26 H27 H28 H29 H30 H31 H32 H33 H34 H35 H36 H37 H38 H39 H40 H41 H42 H43 H44 H45
  isplitl [Hc0 Hs0 Hw0]
  · isplitl [Hc0]; · iexact Hc0
    iexists _; isplitl [Hs0]; · iexact Hs0
    iexact Hw0
  isplitl [Hc1 Hs1 Hw1]
  · isplitl [Hc1]; · iexact Hc1
    iexists _; isplitl [Hs1]; · iexact Hs1
    iexact Hw1
  isplitl [Hc2 Hs2 Hw2]
  · isplitl [Hc2]; · iexact Hc2
    iexists _; isplitl [Hs2]; · iexact Hs2
    iexact Hw2
  iexists _; iexact HW

end Cert.Mixer.Own

end
-- ==== Proof.Mixer.Frame.lean ====
/- The mixer's frame: the body at any point, by the role the point plays for the ring; the proof data; the run. -/
module

public import proofs.«01_k».proof.Proof.Mixer.First
public import proofs.«01_k».proof.Proof.Mixer.Step
public import proofs.«01_k».proof.Proof.Mixer.Last
public import proofs.«01_k».proof.Proof.Mixer.Past
public import Idealize.ShloMosaic.Lib.Pipeline.TableIdle
public import Idealize.ShloMosaic.Lib.Claim

@[expose] public section

set_option maxRecDepth 16384

noncomputable section

namespace Cert.Mixer.Own

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body at any point, the ring whole -/

omit [FloatOps F] in
/-- The ring before a point, by the point's role, -/
theorem ringAt_first (c : Dev nD) (X : BufOf (F := F) c xM) (k : ℕ) (h : k = 0) :
    ringAt c X k ⊢ iprop(Ring.free (cellP c) (slotW c X) (Ring.sl 3 k) ∗ Ring.free (cellP c) (slotW c X) (Ring.sl 3 (k + 1))
      ∗ Ring.free (cellP c) (slotW c X) (Ring.sl 3 (k + 2))) := by
  unfold ringAt; rw [if_pos h, Ring.At₀_eq3' _ _ _ k h (by decide : 3 ≤ 64)]
  iintro ⟨-, H⟩; iexact H
omit [FloatOps F] in
theorem ringAt_step (c : Dev nD) (X : BufOf (F := F) c xM) (k : ℕ) (h₁ : k ≠ 0) (h₂ : k < 62) :
    ringAt c X k ⊢ iprop(Ring.inflight (flightW c X) (Ring.sl 3 k) (Ring.bk 64 k) ∗ Ring.inflight (flightW c X) (Ring.sl 3 (k + 1)) (Ring.bk 64 (k + 1))
      ∗ Ring.free (cellP c) (slotW c X) (Ring.sl 3 (k + 2))) := by
  unfold ringAt; rw [if_neg h₁, Ring.At3_here _ _ _ _ k (by omega)]
  iintro ⟨-, H⟩; iexact H
omit [FloatOps F] in
theorem ringAt_last (c : Dev nD) (X : BufOf (F := F) c xM) (k : ℕ) (h₁ : k ≠ 0) (h₂ : k < 64) :
    ringAt c X k ⊢ iprop(Ring.inflight (flightW c X) (Ring.sl 3 k) (Ring.bk 64 k) ∗ Ring.slotAt 2 (cellP c) (slotW c X) (flightW c X) k 1
      ∗ Ring.free (cellP c) (slotW c X) (Ring.sl 3 (k + 2))) := by
  unfold ringAt; rw [if_neg h₁, Ring.At3_here_tail _ _ _ _ k h₂]
  iintro ⟨-, H⟩; iexact H
omit [FloatOps F] in
/-- and before the point after one that started a block, -/
theorem ringAt_started (c : Dev nD) (X : BufOf (F := F) c xM) (k : ℕ) (h : k < 62) :
    iprop(Ring.inflight (flightW c X) (Ring.sl 3 (k + 1)) (Ring.bk 64 (k + 1)) ∗ Ring.inflight (flightW c X) (Ring.sl 3 (k + 2)) (Ring.bk 64 (k + 2))
      ∗ Ring.free (cellP c) (slotW c X) (Ring.sl 3 k)) ⊢ ringAt c X (k + 1) := by
  unfold ringAt
  rw [if_neg (Nat.succ_ne_zero k), Ring.At3_next _ _ _ _ k (by omega), Ring.slotAt3_next0 _ _ _ k (by omega), Ring.slotAt3_next1 _ _ _ k (by omega)]
  exact Ring.with_homes (Idealize.SL.BI.Entails.refl _)
omit [FloatOps F] in
/-- one that only waited for its own, -/
theorem ringAt_waited (c : Dev nD) (X : BufOf (F := F) c xM) (k : ℕ) (h₁ : 62 ≤ k) (h₂ : k < 64) :
    iprop(Ring.slotAt 2 (cellP c) (slotW c X) (flightW c X) k 1 ∗ Ring.free (cellP c) (slotW c X) (Ring.sl 3 (k + 2))
      ∗ Ring.free (cellP c) (slotW c X) (Ring.sl 3 k)) ⊢ ringAt c X (k + 1) := by
  unfold ringAt
  rw [if_neg (Nat.succ_ne_zero k), Ring.At3_next_tail _ _ _ _ k (by omega) h₂, Ring.slotAt3_tail_role _ _ _ k]
  exact Ring.with_homes (Idealize.SL.BI.Entails.refl _)
/-- and one past the blocks. -/
theorem ringAt_past (c : Dev nD) (X : BufOf (F := F) c xM) (k : ℕ) (h : 64 ≤ k) :
    iprop(Ring.free (cellP c) (slotW c X) (Ring.sl 3 k) ∗ Ring.free (cellP c) (slotW c X) (Ring.sl 3 (k + 1))
      ∗ Ring.free (cellP c) (slotW c X) (Ring.sl 3 (k + 2))) ⊢ ringAt c X (k + 1) := by
  rw [ring_past c X (k + 1) (by omega), show Ring.sl 3 (k + 1 + 2) = Ring.sl 3 k from Ring.sl_add 3 k]
  iintro ⟨H0, H1, H2⟩
  iapply Ring.with_homes₀
  isplitl [H1]; · iexact H1
  isplitl [H2]; · iexact H2
  iexact H0

/-- A role's run, between the ring whole before the point and the ring whole before the next. -/
theorem run_between (c : Dev nD) (t : Fin cfg0.N) (a : Args) (x : Ins F) (y : Vec F S128x1024 .bf16) (X : BufOf (F := F) c xM) (W : Waits sig Unit) (K : PUnit → sProp 𝕄)
    {A₀ A₁ A₂ B₀ B₁ B₂ : sProp 𝕄} (hin : ringAt c X t.val ⊢ iprop(A₀ ∗ A₁ ∗ A₂)) (hout : iprop(B₀ ∗ B₁ ∗ B₂) ⊢ ringAt c X (t.val + 1))
    (run : iprop(insHeld c a x ∗ outsHeld c a y ∗ scrHeld c a ∗ A₀ ∗ A₁ ∗ A₂ ∗ owes (c : Thread nD τ) 0 W
        ∗ (iprop(insHeld c a x ∗ outsLeft c a x (lastLeft t x y) ∗ scrHeld c a ∗ B₀ ∗ B₁ ∗ B₂ ∗ (∃ W', owes (c : Thread nD τ) 0 W')) -∗ K ⟨⟩))
      ⊢ wp frame (wpE (defs₀ (F := F)) Variants.none c none) Set.univ (bodyOn t a) K) :
    iprop(insHeld c a x ∗ outsHeld c a y ∗ scrHeld c a ∗ ringAt c X t.val ∗ owes (c : Thread nD τ) 0 W
        ∗ (iprop(insHeld c a x ∗ outsLeft c a x (lastLeft t x y) ∗ scrHeld c a ∗ ringAt c X (t.val + 1) ∗ (∃ W', owes (c : Thread nD τ) 0 W')) -∗ K ⟨⟩))
      ⊢ wp frame (wpE (defs₀ (F := F)) Variants.none c none) Set.univ (bodyOn t a) K := by
  iintro ⟨HI, HO, HC, HR, HW, Hk⟩
  ihave HA := hin $$ HR
  icases HA with ⟨H0, H1, H2⟩
  iapply run
  isplitl [HI]; · iexact HI
  isplitl [HO]; · iexact HO
  isplitl [HC]; · iexact HC
  isplitl [H0]; · iexact H0
  isplitl [H1]; · iexact H1
  isplitl [H2]; · iexact H2
  isplitl [HW]; · iexact HW
  iintro ⟨HI, HO, HC, H0, H1, H2, HW⟩
  iapply Hk
  isplitl [HI]; · iexact HI
  isplitl [HO]; · iexact HO
  isplitl [HC]; · iexact HC
  isplitl [H0 H1 H2]
  · iapply hout
    isplitl [H0]; · iexact H0
    isplitl [H1]; · iexact H1
    iexact H2
  iexact HW

/-- The body at any point. -/
theorem run_at (c : Dev nD) (t : Fin cfg0.N) (a : Args) (x : Ins F) (y : Vec F S128x1024 .bf16) (X : BufOf (F := F) c xM) (W : Waits sig Unit) (K : PUnit → sProp 𝕄) :
    iprop(insHeld c a x ∗ outsHeld c a y ∗ scrHeld c a ∗ ringAt c X t.val ∗ owes (c : Thread nD τ) 0 W
        ∗ (iprop(insHeld c a x ∗ outsLeft c a x (lastLeft t x y) ∗ scrHeld c a ∗ ringAt c X (t.val + 1) ∗ (∃ W', owes (c : Thread nD τ) 0 W')) -∗ K ⟨⟩))
      ⊢ wp frame (wpE (defs₀ (F := F)) Variants.none c none) Set.univ (bodyOn t a) K := by
  have hN : t.val < 65 := lt_of_lt_of_eq t.isLt (show cfg0.N = 65 from N_0)
  by_cases h₀ : t.val = 0
  · exact run_between c t a x y X W K (ringAt_first c X _ h₀) (ringAt_started c X _ (by omega)) (run_first c t h₀ a x y X W K)
  by_cases h₁ : t.val < 62
  · exact run_between c t a x y X W K (ringAt_step c X _ h₀ h₁) (ringAt_started c X _ h₁) (run_step c t h₀ h₁ a x y X W K)
  by_cases h₂ : t.val < 64
  · exact run_between c t a x y X W K (ringAt_last c X _ h₀ h₂) (ringAt_waited c X _ (by omega) h₂) (run_last c t (by omega) h₂ a x y X W K)
  have h₃ : 64 ≤ t.val := by omega
  refine run_between c t a x y X W K ?_ (ringAt_past c X _ h₃) (run_past c t (by omega) a x y X W K)
  rw [ring_past c X _ h₃]; iintro ⟨-, H⟩; iexact H

/-! ## The proof data -/

variable (m : (ℓ : Loc nD τ sig) → Buf (Elt F) ℓ) (ρ : Dev nD → PrngReg)

/-- What the scratch taken whole holds does not depend on the point. -/
def scrAll (c : Dev nD) : sProp 𝕄 := scrHeld c (argsAt ⟨0, by rw [show cfg0.N = 65 from N_0]; decide⟩)
theorem scrAll_eq (c : Dev nD) (t : Fin cfg0.N) : scrAll (F := F) c = scrHeld c (argsAt t) := rfl

/-- The invariant before point `k`: the scratch taken whole at anything, the generator register at some state, the ring. -/
def inv (c : Dev nD) (k : ℕ) : sProp 𝕄 := iprop(scrAll c ∗ (∃ r, prngReg c r) ∗ ringAt c (V m c main_arg1) k)

/-- The tokens' window: nothing is said of what the kernel leaves in it. -/
def unsaid : Fin 18 → Bool := fun w => w.val = 12

/-- The point whose block of the last weight its window holds after point `t`: there are 22 blocks. -/
def lastAt (t : Fin cfg0.N) : Fin cfg0.N := ⟨min t.val 21, lt_of_le_of_lt (min_le_left _ _) t.isLt⟩

/-- The proof data on core `c`: after the body an input's buffer holds its block, a weight's the cast of
    its block; the tokens' is not said. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, _⟩ => k0_pay1154 (iblk m c 7 t)
    | ⟨14, _⟩ => k0_pay1155 (iblk m c 8 t)
    | ⟨15, _⟩ => k0_pay1156 (iblk m c 9 t)
    | ⟨16, _⟩ => k0_pay1157 (iblk m c 10 t)
    | ⟨17, _⟩ => k0_pay1158 (iblk m c 11 (lastAt t))
    | ⟨_ + 18, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem inv_before (c : Dev nD) (t : Fin cfg0.N) : (dats m 0 c).Φ t.castSucc = inv m c t.val := by
  dsimp only [dats]; simp only [Fin.coe_castSucc]
theorem inv_after (c : Dev nD) (t : Fin cfg0.N) : (dats m 0 c).Φ t.succ = inv m c (t.val + 1) := by
  dsimp only [dats]; simp only [Fin.val_succ]

/-- The windows' blocks at a point: what the body reads. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- An input's buffer holds its block before the body, fetched at that point or not. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; rfl) t d).trans (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; rfl) t d).trans (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; rfl) t d).trans (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; rfl) t d).trans (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; rfl) t d).trans (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; rfl) t d).trans (by unfold Dat.fetched Dat.blockOf iblk; rw [A_eq]; rfl)
theorem before_6 (c : Dev nD) (t : Fin cfg0.N) (d) : (dats m 0 c).before 6 t d = iblk m c 6 t :=
  ((dats m 0 c).before_in_eq_fetched 6 rfl (fun _ => rfl) (fun _ _ _ => rfl) (fun t => by dsimp only [dats]; rfl) t d).trans (by unfold Dat.fetched Dat.blockOf iblk; rw [A_eq]; rfl)
theorem before_7 (c : Dev nD) (t : Fin cfg0.N) (d) : (dats m 0 c).before 7 t d = iblk m c 7 t :=
  ((dats m 0 c).before_in_eq_fetched 7 rfl (fun _ => rfl) (fun _ _ _ => rfl) (fun t => by dsimp only [dats]; rfl) t d).trans (by unfold Dat.fetched Dat.blockOf iblk; rw [A_eq]; rfl)
theorem before_8 (c : Dev nD) (t : Fin cfg0.N) (d) : (dats m 0 c).before 8 t d = iblk m c 8 t :=
  ((dats m 0 c).before_in_eq_fetched 8 rfl (fun _ => rfl) (fun _ _ _ => rfl) (fun t => by dsimp only [dats]; rfl) t d).trans (by unfold Dat.fetched Dat.blockOf iblk; rw [A_eq]; rfl)
theorem before_9 (c : Dev nD) (t : Fin cfg0.N) (d) : (dats m 0 c).before 9 t d = iblk m c 9 t :=
  ((dats m 0 c).before_in_eq_fetched 9 rfl (fun _ => rfl) (fun _ _ _ => rfl) (fun t => by dsimp only [dats]; rfl) t d).trans (by unfold Dat.fetched Dat.blockOf iblk; rw [A_eq]; rfl)
theorem before_10 (c : Dev nD) (t : Fin cfg0.N) (d) : (dats m 0 c).before 10 t d = iblk m c 10 t :=
  ((dats m 0 c).before_in_eq_fetched 10 rfl (fun _ => rfl) (fun _ _ _ => rfl) (fun t => by dsimp only [dats]; rfl) t d).trans (by unfold Dat.fetched Dat.blockOf iblk; rw [A_eq]; rfl)
theorem before_11 (c : Dev nD) (t : Fin cfg0.N) (d) : (dats m 0 c).before 11 t d = iblk m c 11 t :=
  ((dats m 0 c).before_in_eq_fetched 11 rfl (fun _ => rfl) (fun _ _ _ => rfl) (fun t => by dsimp only [dats]; rfl) t d).trans (by unfold Dat.fetched Dat.blockOf iblk; rw [A_eq]; rfl)

/-! The last weight's window: its points after the 22nd store nothing in it, and keep what it holds. -/
theorem idle_17 : ∀ t : Fin cfg0.N, cfg0.idle 17 (cfg0.grid.coords t) = decide (22 ≤ t.val) := (by decide +kernel : ∀ t : Fin grid0.N, _)
theorem flush_17 : ∀ t : Fin cfg0.N, (cfg0.win 17).flush t = decide (t.val < 21 ∨ t.val = 64) := (by decide +kernel : ∀ t : Fin grid0.N, _)
theorem fresh_17 (n : ℕ) (h : n ≤ cfg0.N) : cfg0.fresh 17 n = decide (n < 22 ∨ n = 65) :=
  cfg0.fresh_tab 17 (fun n => decide (n < 22 ∨ n = 65)) (by decide) (fun t => by
    have ht : t.val < 65 := lt_of_lt_of_eq t.isLt (show cfg0.N = 65 from N_0)
    rw [idle_17, flush_17, Bool.eq_iff_iff]
    simp only [decide_eq_true_eq, Bool.or_eq_true, Bool.and_eq_true]
    omega) n h
theorem after_17 (c : Dev nD) (t : Fin cfg0.N) : (dats m 0 c).after 17 t = k0_pay1158 (iblk m c 11 (lastAt t)) := by dsimp only [dats]
theorem lastAt_lt (t : Fin cfg0.N) (h : t.val < 22) : lastAt t = t := Fin.ext (Nat.min_eq_left (by omega))
theorem lastAt_pred (t : Fin cfg0.N) (h : 22 ≤ t.val) : lastAt ⟨t.val - 1, lt_of_le_of_lt (Nat.sub_le _ _) t.isLt⟩ = lastAt t :=
  Fin.ext (show min (t.val - 1) 21 = min t.val 21 by omega)
theorem before_17 (c : Dev nD) (t : Fin cfg0.N) (h : 22 ≤ t.val) (d) : (dats m 0 c).before 17 t d = (dats m 0 c).after 17 t := by
  have ht : t.val < 65 := lt_of_lt_of_eq t.isLt (show cfg0.N = 65 from N_0)
  rw [(dats m 0 c).before_out_traj 17 rfl (fun _ _ => rfl) (fun t _ hi _ => by
    rw [idle_17, decide_eq_true_eq] at hi
    rw [after_17, after_17, lastAt_pred t hi]) t.val t rfl d, fresh_17 _ t.isLt.le, if_neg (by rw [decide_eq_true_eq]; omega), after_17, after_17, lastAt_pred t h]
/-- What a point leaves in it, in the obligation's words. -/
theorem leaves_17 (c : Dev nD) (t : Fin cfg0.N) (d) :
    owns (c : Thread nD τ) (ms17 t) fullShare (lastLeft t (insAt m c t) ((dats m 0 c).before 17 t d)) ⊢ ((dats m 0 c).leavesExact 17 t : sProp 𝕄) := by
  by_cases h : t.val < 22
  · rw [show lastLeft t (insAt m c t) ((dats m 0 c).before 17 t d) = (dats m 0 c).after 17 t by
      unfold lastLeft; rw [if_pos h, after_17, lastAt_lt t h]]
    unfold Dat.leavesExact
    rw [idle_17, decide_eq_false (by omega)]
  rw [show lastLeft t (insAt m c t) ((dats m 0 c).before 17 t d) = (dats m 0 c).before 17 t d by unfold lastLeft; rw [if_neg h]]
  by_cases hl : t.val = 64
  · rw [before_17 m c t (by omega)]
    unfold Dat.leavesExact
    rw [idle_17, flush_17, decide_eq_true (by omega), decide_eq_true (Or.inr hl)]
  rw [(dats m 0 c).leavesExact_idle 17 t (by rw [idle_17]; exact decide_eq_true (by omega)) (by rw [flush_17]; exact decide_eq_false (by omega))]
  iintro H
  iexists d
  iexact H

/-! ## The body obligation -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare d)
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms12 t) fullShare d)
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- The body at a point, in the obligation's words. -/
theorem sound_body (c : Dev nD) (t : Fin cfg0.N) :
    bodyPre m c t ⊢ wp frame (wpE (defs₀ (F := F)) Variants.none c none) Set.univ (bodyOn t (argsAt t)) (fun _ => bodyPost m c t) := by
  have hpost : ∀ d, iprop(inv m c (t.val + 1) ∗ (dats m 0 c).owesAt () t.succ ∗ insHeld c (argsAt t) (insAt m c t)
      ∗ outsLeft c (argsAt t) (insAt m c t) (lastLeft t (insAt m c t) ((dats m 0 c).before 17 t d))) ⊢ bodyPost m c t := fun d => by
    unfold bodyPost insHeld outsLeft; rw [inv_after]
    iintro ⟨HΦ, HW, ⟨H0, H1, H2, H3, H4, H5, H6, H7, H8, H9, H10, H11⟩, H12, H13, H14, H15, H16, H17⟩
    isplitl [HΦ]; · iexact HΦ
    isplitl [HW]; · iexact HW
    isplitl [H0]; · unfold Dat.leavesExact; iexact H0
    isplitl [H1]; · unfold Dat.leavesExact; iexact H1
    isplitl [H2]; · unfold Dat.leavesExact; iexact H2
    isplitl [H3]; · unfold Dat.leavesExact; iexact H3
    isplitl [H4]; · unfold Dat.leavesExact; iexact H4
    isplitl [H5]; · unfold Dat.leavesExact; iexact H5
    isplitl [H6]; · unfold Dat.leavesExact; iexact H6
    isplitl [H7]; · unfold Dat.leavesExact; iexact H7
    isplitl [H8]; · unfold Dat.leavesExact; iexact H8
    isplitl [H9]; · unfold Dat.leavesExact; iexact H9
    isplitl [H10]; · unfold Dat.leavesExact; iexact H10
    isplitl [H11]; · unfold Dat.leavesExact; iexact H11
    isplitl [H12]; · iexact H12
    isplitl [H13]; · unfold Dat.leavesExact; iexact H13
    isplitl [H14]; · unfold Dat.leavesExact; iexact H14
    isplitl [H15]; · unfold Dat.leavesExact; iexact H15
    isplitl [H16]; · unfold Dat.leavesExact; iexact H16
    iapply (leaves_17 m c t d)
    iexact H17
  have hpre : bodyPre m c t ⊢ iprop(∃ d, inv m c t.val ∗ (dats m 0 c).owesAt () t.castSucc ∗ insHeld c (argsAt t) (insAt m c t)
      ∗ outsHeld c (argsAt t) ((dats m 0 c).before 17 t d)) := by
    unfold bodyPre insHeld outsHeld; rw [inv_before]
    simp only [before_0, before_1, before_2, before_3, before_4, before_5, before_6, before_7, before_8, before_9, before_10, before_11]
    iintro ⟨HΦ, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩, ⟨%d14, H14⟩, ⟨%d15, H15⟩, ⟨%d16, H16⟩, ⟨%d17, H17⟩⟩
    iexists d17
    isplitl [HΦ]; · iexact HΦ
    isplitl [HW]; · iexact HW
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    isplitl [H13]; · iexists _; iexact H13
    isplitl [H14]; · iexists _; iexact H14
    isplitl [H15]; · iexists _; iexact H15
    isplitl [H16]; · iexists _; iexact H16
    iexact H17
  unfold inv Dat.owesAt Pipeline.owesWithin at hpre hpost
  simp only [show (dats m 0 c).owed t.castSucc = 0 from rfl, scrAll_eq c t] at hpre
  simp only [show (dats m 0 c).owed t.succ = 0 from rfl, scrAll_eq c t] at hpost
  iintro H
  ihave H := hpre $$ H
  icases H with ⟨%d, ⟨HC, Hg, HR⟩, ⟨%W, -, HW⟩, HI, HO⟩
  iapply (run_at c t (argsAt t) (insAt m c t) ((dats m 0 c).before 17 t d) (V m c main_arg1) W _)
  isplitl [HI]; · iexact HI
  isplitl [HO]; · iexact HO
  isplitl [HC]; · iexact HC
  isplitl [HR]; · iexact HR
  isplitl [HW]; · iexact HW
  iintro ⟨HI, HO, HC, HR, ⟨%W', HW⟩⟩
  iapply (hpost d)
  isplitl [HC Hg HR]
  · isplitl [HC]; · iexact HC
    isplitl [Hg]; · iexact Hg
    iexact HR
  isplitl [HW]
  · iexists W'; isplitr; · ipureintro; exact fun _ _ => Or.inl trivial
    iexact HW
  isplitl [HI]; · iexact HI
  iexact HO

/-- The body table's row at a point's slots is the body on that point's memrefs. -/
theorem row_eq (t : Fin cfg0.N) : defs₀ (F := F) .tc cfg0.body (cfg0.bodyArgs t (cfg0.slots t)) = bodyOn t (argsAt t) := by
  unfold defs₀ bodyOn; rw [Defs.onTc_tc]

theorem body_obligation (c : Dev nD) : BodyObligation (dats (F := F) m 0 c) (defs₀ (F := F)) Variants.none () Set.univ unsaid := fun t => by
  rw [bigSep_W0, bigSep_W0, row_eq]
  exact triple_restated (sound_body m c t) rfl .rfl fun _ => .rfl

/-- What the launch hands over is the invariant before the first point, and the invariant after the last hands it back. -/
theorem hin (c : Dev nD) : Pipeline.ΦD osem spec0 H0 (V m) c ⊢ (dats m 0 c).Φ 0 := by
  rw [PhiD_eq, show (dats m 0 c).Φ 0 = inv m c 0 from rfl]
  unfold inv scrAll scrHeld
  iintro ⟨⟨HS0, HS1, HS2, HS3, HS4, HS5, HS6, HS7, HS8, HS9, HS10, HS11, HS12, HS13, HS14, HS15, HS16, HS17, HS18, HS19, HS20, HS21, HS22, HS23, HS24, HS25, HR⟩, Hg, Hq, Hh⟩
  isplitl [HS0 HS1 HS2 HS3 HS4 HS5 HS6 HS7 HS8 HS9 HS10 HS11 HS12 HS13 HS14 HS15 HS16 HS17 HS18 HS19 HS20 HS21 HS22 HS23 HS24 HS25]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    iexact HS25
  isplitl [Hg]; · iexact Hg
  iapply (ring_in (F := F) m c)
  isplitl [HR]; · iexact HR
  isplitl [Hq]; · iexact Hq
  iexact Hh
theorem hout (c : Dev nD) : (dats m 0 c).Φ (Fin.last cfg0.N) ⊢ Pipeline.ΦD osem spec0 H0 (V m) c := by
  rw [PhiD_eq, show (dats m 0 c).Φ (Fin.last cfg0.N) = inv m c grid0.N from rfl, show grid0.N = 65 by rw [N_0]]
  unfold inv scrAll scrHeld
  iintro ⟨⟨HS0, HS1, HS2, HS3, HS4, HS5, HS6, HS7, HS8, HS9, HS10, HS11, HS12, HS13, HS14, HS15, HS16, HS17, HS18, HS19, HS20, HS21, HS22, HS23, HS24, HS25⟩, Hg, HR⟩
  ihave HX := (ring_out (F := F) m c 65 (by decide)) $$ HR
  icases HX with ⟨HR, Hq, Hh⟩
  isplitl [HS0 HS1 HS2 HS3 HS4 HS5 HS6 HS7 HS8 HS9 HS10 HS11 HS12 HS13 HS14 HS15 HS16 HS17 HS18 HS19 HS20 HS21 HS22 HS23 HS24 HS25 HR]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    isplitl [HS25]; · iexact HS25
    iexact HR
  isplitl [Hg]; · iexact Hg
  isplitl [Hq]; · iexact Hq
  iexact Hh

/-! ## The run and the frame -/

set_option backward.isDefEq.respectTransparency.types false in
/-- Every execution ends, the inputs unchanged, every counter at zero. -/
theorem run_main : θ_run defs (onTc (τ := τ) (main (F := F))) (s₀ m ρ)
    (fun r => (Pipeline.RDat.FramePost (cfgs 0) (fun c => (dats m 0 c).toRForget unsaid) (V m)) r ∧ r.2.sem = fun _ => 0) :=
  Pipeline.θ_run_frame_dma_forget (Q' := _) cfgs (dats m) (0 : Fin 1) launch0 osem defs₀ Variants.none unsaid osem_facts H0 hbm_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The mixer's frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (fun c => (dats m 0 c).toRForget unsaid) (A_eq m) ((θ_run defs _ _).mono (fun _ h => h.1) (run_main m ρ)))
    ((θ_run defs _ _).mono (fun _ h => h.2) (run_main m ρ))

end Cert.Mixer.Own

end
-- ==== Proof.Mixer.Weights.lean ====
/- The five weights that the mixer casts for the call after it: what its arrays of them hold after its run, at any
   arithmetic. A point casts the block it is given of each of the first four; the last weight's blocks are cast by the
   first 22 points. -/
module

public import proofs.«01_k».proof.Proof.Mixer.Frame
public import Idealize.ShloMosaic.Lib.Pipeline.Value
public import Idealize.ShloMosaic.Lib.Pipeline.ValueKit.Geometry

@[expose] public section

set_option maxRecDepth 16384

noncomputable section

namespace Cert.Mixer.Own

open Cert.Mixer.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-! ## The arrays the region finds -/

theorem V_wq (c : Dev nD) : V m c main_v0 = shapeCast S1024x1024 (m ((c : Thread nD τ).loc main_arg8)) shapeCasts_S1x1024x1024_S1024x1024 := by
  show StableHlo.after hostOps0 _ (Proc.devRef .tc main_v0) = _
  after_results
  rfl
theorem V_wo (c : Dev nD) : V m c main_v1 = shapeCast S1024x1024 (m ((c : Thread nD τ).loc main_arg9)) shapeCasts_S1x1024x1024_S1024x1024 := by
  show StableHlo.after hostOps0 _ (Proc.devRef .tc main_v1) = _
  after_results
  rfl
theorem V_gate (c : Dev nD) : V m c main_v2 = shapeCast S1024x2816 (m ((c : Thread nD τ).loc main_arg10)) shapeCasts_S1x1024x2816_S1024x2816 := by
  show StableHlo.after hostOps0 _ (Proc.devRef .tc main_v2) = _
  after_results
  rfl
theorem V_up (c : Dev nD) : V m c main_v3 = shapeCast S1024x2816 (m ((c : Thread nD τ).loc main_arg11)) shapeCasts_S1x1024x2816_S1024x2816 := by
  show StableHlo.after hostOps0 _ (Proc.devRef .tc main_v3) = _
  after_results
  rfl
theorem V_down (c : Dev nD) : V m c main_v4 = shapeCast S2816x1024 (m ((c : Thread nD τ).loc main_arg12)) shapeCasts_S1x2816x1024_S2816x1024 := by
  show StableHlo.after hostOps0 _ (Proc.devRef .tc main_v4) = _
  after_results
  rfl

/-! ## A weight's cast goes back to where its block came from -/

theorem index_squares : ∀ (t : Fin cfg0.N) (a : Fin 2), win0_13.index t a = win0_7.index t a ∧ win0_14.index t a = win0_8.index t a :=
  (by decide +kernel : ∀ (t : Fin grid0.N) (a : Fin 2), _)
theorem index_wides : ∀ (t : Fin cfg0.N) (a : Fin 2), win0_15.index t a = win0_9.index t a ∧ win0_16.index t a = win0_10.index t a :=
  (by decide +kernel : ∀ (t : Fin grid0.N) (a : Fin 2), _)
theorem index_last : ∀ (t : Fin cfg0.N) (a : Fin 2), win0_17.index t a = win0_11.index (lastAt t) a :=
  (by decide +kernel : ∀ (t : Fin grid0.N) (a : Fin 2), win0_17.index t a = win0_11.index ⟨min t.val 21, lt_of_le_of_lt (min_le_left _ _) t.isLt⟩ a)

theorem emb_13 (t : Fin cfg0.N) (j : S16x1024.Idx) : (((cfg0.win 13).blk t).view.emb j : S1024x1024.Idx) = ((cfg0.win 7).blk t).view.emb j := by
  funext a; apply Fin.ext
  show win0_13.index t a * S16x1024.size a + 1 * (j a).val = win0_7.index t a * S16x1024.size a + 1 * (j a).val
  rw [(index_squares t a).1]
theorem emb_14 (t : Fin cfg0.N) (j : S16x1024.Idx) : (((cfg0.win 14).blk t).view.emb j : S1024x1024.Idx) = ((cfg0.win 8).blk t).view.emb j := by
  funext a; apply Fin.ext
  show win0_14.index t a * S16x1024.size a + 1 * (j a).val = win0_8.index t a * S16x1024.size a + 1 * (j a).val
  rw [(index_squares t a).2]
theorem emb_15 (t : Fin cfg0.N) (j : S16x2816.Idx) : (((cfg0.win 15).blk t).view.emb j : S1024x2816.Idx) = ((cfg0.win 9).blk t).view.emb j := by
  funext a; apply Fin.ext
  show win0_15.index t a * S16x2816.size a + 1 * (j a).val = win0_9.index t a * S16x2816.size a + 1 * (j a).val
  rw [(index_wides t a).1]
theorem emb_16 (t : Fin cfg0.N) (j : S16x2816.Idx) : (((cfg0.win 16).blk t).view.emb j : S1024x2816.Idx) = ((cfg0.win 10).blk t).view.emb j := by
  funext a; apply Fin.ext
  show win0_16.index t a * S16x2816.size a + 1 * (j a).val = win0_10.index t a * S16x2816.size a + 1 * (j a).val
  rw [(index_wides t a).2]
theorem emb_17 (t : Fin cfg0.N) (j : S128x1024.Idx) : (((cfg0.win 17).blk t).view.emb j : S2816x1024.Idx) = ((cfg0.win 11).blk (lastAt t)).view.emb j := by
  funext a; apply Fin.ext
  show win0_17.index t a * S128x1024.size a + 1 * (j a).val = win0_11.index (lastAt t) a * S128x1024.size a + 1 * (j a).val
  rw [index_last t a]

/-! ## The arrays after the run -/

/-- A block's cast at an entry is the array's cast where the entry lies. -/
theorem cast_at {s s' : Shape} (v : FVec F s .f32) (h : s.ShapeCasts s) (w : FVec F s' .f32) (j : s.Idx) (i : s'.Idx) (e : v j = w i) :
    truncf .bf16 (shapeCast s v h) bitsLt_bf16_f32 j = truncf .bf16 w bitsLt_bf16_f32 i := by
  rw [shapeCast_self]
  exact congrArg (FloatOps.truncf .bf16 bitsLt_bf16_f32) e

theorem last_13 (c : Dev nD) : (dats m 0 c).arrAt 13 cfg0.N = truncf .bf16 (shapeCast S1024x1024 (m ((c : Thread nD τ).loc main_arg8)) shapeCasts_S1x1024x1024_S1024x1024) bitsLt_bf16_f32 := by
  rw [← V_wq m c]
  refine (dats m 0 c).arrAt_eq_of_covers 13 _ (by decide +kernel) fun t _ y => ?_
  exact cast_at _ _ _ _ _ (congrArg (V m c main_v0) (emb_13 t y).symm)
theorem last_14 (c : Dev nD) : (dats m 0 c).arrAt 14 cfg0.N = truncf .bf16 (shapeCast S1024x1024 (m ((c : Thread nD τ).loc main_arg9)) shapeCasts_S1x1024x1024_S1024x1024) bitsLt_bf16_f32 := by
  rw [← V_wo m c]
  refine (dats m 0 c).arrAt_eq_of_covers 14 _ (by decide +kernel) fun t _ y => ?_
  exact cast_at _ _ _ _ _ (congrArg (V m c main_v1) (emb_14 t y).symm)
theorem last_15 (c : Dev nD) : (dats m 0 c).arrAt 15 cfg0.N = truncf .bf16 (shapeCast S1024x2816 (m ((c : Thread nD τ).loc main_arg10)) shapeCasts_S1x1024x2816_S1024x2816) bitsLt_bf16_f32 := by
  rw [← V_gate m c]
  refine (dats m 0 c).arrAt_eq_of_covers 15 _ (by decide +kernel) fun t _ y => ?_
  exact cast_at _ _ _ _ _ (congrArg (V m c main_v2) (emb_15 t y).symm)
theorem last_16 (c : Dev nD) : (dats m 0 c).arrAt 16 cfg0.N = truncf .bf16 (shapeCast S1024x2816 (m ((c : Thread nD τ).loc main_arg11)) shapeCasts_S1x1024x2816_S1024x2816) bitsLt_bf16_f32 := by
  rw [← V_up m c]
  refine (dats m 0 c).arrAt_eq_of_covers 16 _ (by decide +kernel) fun t _ y => ?_
  exact cast_at _ _ _ _ _ (congrArg (V m c main_v3) (emb_16 t y).symm)
theorem last_17 (c : Dev nD) : (dats m 0 c).arrAt 17 cfg0.N = truncf .bf16 (shapeCast S2816x1024 (m ((c : Thread nD τ).loc main_arg12)) shapeCasts_S1x2816x1024_S2816x1024) bitsLt_bf16_f32 := by
  rw [← V_down m c]
  refine (dats m 0 c).arrAt_eq_of_covers 17 _ (by decide +kernel) fun t _ y => ?_
  exact cast_at _ _ _ _ _ (congrArg (V m c main_v4) (emb_17 t y).symm)

/-- The mixer's five weights, at any arithmetic: each cast from its argument. -/
theorem weights : θ_run defs (onTc (τ := τ) (main (F := F))) ⟨m, fun _ => 0, ρ⟩ (fun r => ∀ c : Dev nD,
      r.2.mem ((c.tc : Thread nD τ).loc main_v12_1) = truncf .bf16 (shapeCast S1024x1024 (m ((c.tc : Thread nD τ).loc main_arg8)) shapeCasts_S1x1024x1024_S1024x1024) bitsLt_bf16_f32
      ∧ r.2.mem ((c.tc : Thread nD τ).loc main_v12_2) = truncf .bf16 (shapeCast S1024x1024 (m ((c.tc : Thread nD τ).loc main_arg9)) shapeCasts_S1x1024x1024_S1024x1024) bitsLt_bf16_f32
      ∧ r.2.mem ((c.tc : Thread nD τ).loc main_v12_3) = truncf .bf16 (shapeCast S1024x2816 (m ((c.tc : Thread nD τ).loc main_arg10)) shapeCasts_S1x1024x2816_S1024x2816) bitsLt_bf16_f32
      ∧ r.2.mem ((c.tc : Thread nD τ).loc main_v12_4) = truncf .bf16 (shapeCast S1024x2816 (m ((c.tc : Thread nD τ).loc main_arg11)) shapeCasts_S1x1024x2816_S1024x2816) bitsLt_bf16_f32
      ∧ r.2.mem ((c.tc : Thread nD τ).loc main_v12_5) = truncf .bf16 (shapeCast S2816x1024 (m ((c.tc : Thread nD τ).loc main_arg12)) shapeCasts_S1x2816x1024_S2816x1024) bitsLt_bf16_f32) :=
  (θ_run defs _ _).mono (fun r h c =>
    ⟨(((dats m 0 c).toRForget_arrAt_iff (by decide) _ _).1 ((h.1 c).1 13)).trans (last_13 m c),
     (((dats m 0 c).toRForget_arrAt_iff (by decide) _ _).1 ((h.1 c).1 14)).trans (last_14 m c),
     (((dats m 0 c).toRForget_arrAt_iff (by decide) _ _).1 ((h.1 c).1 15)).trans (last_15 m c),
     (((dats m 0 c).toRForget_arrAt_iff (by decide) _ _).1 ((h.1 c).1 16)).trans (last_16 m c),
     (((dats m 0 c).toRForget_arrAt_iff (by decide) _ _).1 ((h.1 c).1 17)).trans (last_17 m c)⟩) (run_main m ρ)

end Cert.Mixer.Own

end
-- ==== Proof.Mixer.Ideal.lean ====
/- The idealized mixer's frame and its weights. No rewrite applies to the mixer, so its idealization is the same program printed
   again: the two agree by definition, and what is proved of the one at any arithmetic holds of the other. -/
module

public import proofs.«01_k».proof.Proof.Mixer.Weights
public import proofs.«01_k».proof.Proof.Gen.MixerIdeal

@[expose] public section

set_option maxRecDepth 100000

noncomputable section

namespace Cert.MixerIdeal.Own

open Idealize.ShloMosaic Idealize.ShloMosaic.TcCoe Idealize.SL.Sem
open Cert.MixerIdeal.Gen

variable {F : FTy → Type} [FloatOps F]

set_option maxHeartbeats 40000000 in
/-- The two bodies, -/
theorem body_eq : @Cert.Mixer.cc0_mixer F _ Cert.Mixer.Gen.facts = @Cert.MixerIdeal.cc0_mixer F _ Cert.MixerIdeal.Gen.facts := (rfl)
set_option maxHeartbeats 40000000 in
/-- and the two programs. -/
theorem main_eq : @Cert.Mixer.main F _ = @Cert.MixerIdeal.main F _ := (rfl)
set_option maxHeartbeats 40000000 in
/-- The tables of the bodies agree at their one label, -/
theorem bodies_eq : @Cert.Mixer.defs₀ F _ Cert.Mixer.Gen.facts = @Cert.MixerIdeal.defs₀ F _ Cert.MixerIdeal.Gen.facts := by
  funext p l a
  match p, l, a with
  | .tc, ⟨0, _⟩, (t, s) =>
    exact (rfl)
  | .scScalar _, _, _ => exact (rfl)
  | .scVector _ _, _, _ => exact (rfl)
set_option maxHeartbeats 40000000 in
/-- and so do the tables with the pipeline's labels. -/
theorem defs_eq : @Cert.Mixer.defs F _ Cert.Mixer.Gen.facts = @Cert.MixerIdeal.defs F _ Cert.MixerIdeal.Gen.facts :=
  congrArg (Pipeline.defs Cert.Mixer.pcfgs) bodies_eq

/-- The mixer's frame, of whatever is equal to its program. -/
theorem of_eq (d : Defs Cert.Mixer.nD Cert.Mixer.τ Cert.Mixer.sig (Elt F) (Pipeline.Sig Cert.Mixer.Λ₀ (Fin 1) fun p => (Cert.Mixer.pcfgs (F := F) p).Adm))
    (mn : Dev Cert.Mixer.nD → Prog (TpuEff Cert.Mixer.nD Cert.Mixer.τ Cert.Mixer.sig (Elt F) (Pipeline.Sig Cert.Mixer.Λ₀ (Fin 1) fun p => (Cert.Mixer.pcfgs (F := F) p).Adm) .tc) PUnit)
    (hd : d = Cert.Mixer.defs) (hm : mn = Cert.Mixer.main)
    (m : (ℓ : Loc Cert.Mixer.nD Cert.Mixer.τ Cert.Mixer.sig) → Buf (Elt F) ℓ) (ρ : Dev Cert.Mixer.nD → PrngReg) :
    θ_run d (onTc (τ := Cert.Mixer.τ) mn) ⟨m, fun _ => 0, ρ⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0) := by
  subst hd hm
  exact Cert.Mixer.Own.frame m ρ

set_option maxHeartbeats 40000000 in
/-- The idealized mixer's frame, at any arithmetic. -/
theorem frame (m : (ℓ : Loc Cert.MixerIdeal.nD Cert.MixerIdeal.τ Cert.MixerIdeal.sig) → Buf (Elt F) ℓ) (ρ : Dev Cert.MixerIdeal.nD → PrngReg) :
    θ_run (Cert.MixerIdeal.defs (F := F)) (onTc (τ := Cert.MixerIdeal.τ) (Cert.MixerIdeal.main (F := F))) ⟨m, fun _ => 0, ρ⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0) :=
  of_eq _ _ defs_eq.symm main_eq.symm m ρ

/-- The mixer's five weights, of whatever is equal to its program. -/
theorem weights_of_eq (d : Defs Cert.Mixer.nD Cert.Mixer.τ Cert.Mixer.sig (Elt F) (Pipeline.Sig Cert.Mixer.Λ₀ (Fin 1) fun p => (Cert.Mixer.pcfgs (F := F) p).Adm))
    (mn : Dev Cert.Mixer.nD → Prog (TpuEff Cert.Mixer.nD Cert.Mixer.τ Cert.Mixer.sig (Elt F) (Pipeline.Sig Cert.Mixer.Λ₀ (Fin 1) fun p => (Cert.Mixer.pcfgs (F := F) p).Adm) .tc) PUnit)
    (hd : d = Cert.Mixer.defs) (hm : mn = Cert.Mixer.main)
    (m : (ℓ : Loc Cert.Mixer.nD Cert.Mixer.τ Cert.Mixer.sig) → Buf (Elt F) ℓ) (ρ : Dev Cert.Mixer.nD → PrngReg) :
    θ_run d (onTc (τ := Cert.Mixer.τ) mn) ⟨m, fun _ => 0, ρ⟩ (fun r => ∀ c : Dev Cert.Mixer.nD,
      r.2.mem ((c.tc : Thread Cert.Mixer.nD Cert.Mixer.τ).loc Cert.Mixer.main_v12_1) = truncf .bf16 (shapeCast Cert.Mixer.S1024x1024 (m ((c.tc : Thread Cert.Mixer.nD Cert.Mixer.τ).loc Cert.Mixer.main_arg8)) Cert.Mixer.Gen.shapeCasts_S1x1024x1024_S1024x1024) Cert.Mixer.Gen.bitsLt_bf16_f32
      ∧ r.2.mem ((c.tc : Thread Cert.Mixer.nD Cert.Mixer.τ).loc Cert.Mixer.main_v12_2) = truncf .bf16 (shapeCast Cert.Mixer.S1024x1024 (m ((c.tc : Thread Cert.Mixer.nD Cert.Mixer.τ).loc Cert.Mixer.main_arg9)) Cert.Mixer.Gen.shapeCasts_S1x1024x1024_S1024x1024) Cert.Mixer.Gen.bitsLt_bf16_f32
      ∧ r.2.mem ((c.tc : Thread Cert.Mixer.nD Cert.Mixer.τ).loc Cert.Mixer.main_v12_3) = truncf .bf16 (shapeCast Cert.Mixer.S1024x2816 (m ((c.tc : Thread Cert.Mixer.nD Cert.Mixer.τ).loc Cert.Mixer.main_arg10)) Cert.Mixer.Gen.shapeCasts_S1x1024x2816_S1024x2816) Cert.Mixer.Gen.bitsLt_bf16_f32
      ∧ r.2.mem ((c.tc : Thread Cert.Mixer.nD Cert.Mixer.τ).loc Cert.Mixer.main_v12_4) = truncf .bf16 (shapeCast Cert.Mixer.S1024x2816 (m ((c.tc : Thread Cert.Mixer.nD Cert.Mixer.τ).loc Cert.Mixer.main_arg11)) Cert.Mixer.Gen.shapeCasts_S1x1024x2816_S1024x2816) Cert.Mixer.Gen.bitsLt_bf16_f32
      ∧ r.2.mem ((c.tc : Thread Cert.Mixer.nD Cert.Mixer.τ).loc Cert.Mixer.main_v12_5) = truncf .bf16 (shapeCast Cert.Mixer.S2816x1024 (m ((c.tc : Thread Cert.Mixer.nD Cert.Mixer.τ).loc Cert.Mixer.main_arg12)) Cert.Mixer.Gen.shapeCasts_S1x2816x1024_S2816x1024) Cert.Mixer.Gen.bitsLt_bf16_f32) := by
  subst hd hm
  exact Cert.Mixer.Own.weights m ρ

set_option maxHeartbeats 40000000 in
/-- The idealized mixer's five weights, at any arithmetic. -/
theorem weights (m : (ℓ : Loc Cert.MixerIdeal.nD Cert.MixerIdeal.τ Cert.MixerIdeal.sig) → Buf (Elt F) ℓ) (ρ : Dev Cert.MixerIdeal.nD → PrngReg) :
    θ_run (Cert.MixerIdeal.defs (F := F)) (onTc (τ := Cert.MixerIdeal.τ) (Cert.MixerIdeal.main (F := F))) ⟨m, fun _ => 0, ρ⟩ (fun r => ∀ c : Dev Cert.MixerIdeal.nD,
      r.2.mem ((c.tc : Thread Cert.MixerIdeal.nD Cert.MixerIdeal.τ).loc Cert.MixerIdeal.main_v12_1) = truncf .bf16 (shapeCast Cert.MixerIdeal.S1024x1024 (m ((c.tc : Thread Cert.MixerIdeal.nD Cert.MixerIdeal.τ).loc Cert.MixerIdeal.main_arg8)) Cert.MixerIdeal.Gen.shapeCasts_S1x1024x1024_S1024x1024) Cert.MixerIdeal.Gen.bitsLt_bf16_f32
      ∧ r.2.mem ((c.tc : Thread Cert.MixerIdeal.nD Cert.MixerIdeal.τ).loc Cert.MixerIdeal.main_v12_2) = truncf .bf16 (shapeCast Cert.MixerIdeal.S1024x1024 (m ((c.tc : Thread Cert.MixerIdeal.nD Cert.MixerIdeal.τ).loc Cert.MixerIdeal.main_arg9)) Cert.MixerIdeal.Gen.shapeCasts_S1x1024x1024_S1024x1024) Cert.MixerIdeal.Gen.bitsLt_bf16_f32
      ∧ r.2.mem ((c.tc : Thread Cert.MixerIdeal.nD Cert.MixerIdeal.τ).loc Cert.MixerIdeal.main_v12_3) = truncf .bf16 (shapeCast Cert.MixerIdeal.S1024x2816 (m ((c.tc : Thread Cert.MixerIdeal.nD Cert.MixerIdeal.τ).loc Cert.MixerIdeal.main_arg10)) Cert.MixerIdeal.Gen.shapeCasts_S1x1024x2816_S1024x2816) Cert.MixerIdeal.Gen.bitsLt_bf16_f32
      ∧ r.2.mem ((c.tc : Thread Cert.MixerIdeal.nD Cert.MixerIdeal.τ).loc Cert.MixerIdeal.main_v12_4) = truncf .bf16 (shapeCast Cert.MixerIdeal.S1024x2816 (m ((c.tc : Thread Cert.MixerIdeal.nD Cert.MixerIdeal.τ).loc Cert.MixerIdeal.main_arg11)) Cert.MixerIdeal.Gen.shapeCasts_S1x1024x2816_S1024x2816) Cert.MixerIdeal.Gen.bitsLt_bf16_f32
      ∧ r.2.mem ((c.tc : Thread Cert.MixerIdeal.nD Cert.MixerIdeal.τ).loc Cert.MixerIdeal.main_v12_5) = truncf .bf16 (shapeCast Cert.MixerIdeal.S2816x1024 (m ((c.tc : Thread Cert.MixerIdeal.nD Cert.MixerIdeal.τ).loc Cert.MixerIdeal.main_arg12)) Cert.MixerIdeal.Gen.shapeCasts_S1x2816x1024_S2816x1024) Cert.MixerIdeal.Gen.bitsLt_bf16_f32) :=
  weights_of_eq _ _ defs_eq.symm main_eq.symm m ρ

end Cert.MixerIdeal.Own

end
-- ==== Proof.Mixer.Claims.lean ====
module
public import proofs.«01_k».proof.Defs
public import proofs.«01_k».proof.Proof.Mixer.Ideal
public import proofs.«01_k».proof.Proof.Gen.NextWeightsReferenceIdeal
public import proofs.«01_k».proof.Proof.Gen.NextWeightsReferenceIdeal.Run
@[expose] public section
set_option maxRecDepth 16384
noncomputable section
namespace Cert.MixerIdeal.Own
open Idealize.ShloMosaic Idealize.ShloMosaic.TcCoe Idealize.SL.Sem
open Cert.MixerIdeal.Gen

/-! The value claim of the mixer: the five weights that it casts for the call after it. -/

/-- The casts of a square weight, of the two wide ones and of the last. -/
def castSquare (x : FVec Ideal S1x1024x1024 .f32) : FVec Ideal S1024x1024 .bf16 := truncf .bf16 (shapeCast S1024x1024 x shapeCasts_S1x1024x1024_S1024x1024) bitsLt_bf16_f32
def castWide (x : FVec Ideal S1x1024x2816 .f32) : FVec Ideal S1024x2816 .bf16 := truncf .bf16 (shapeCast S1024x2816 x shapeCasts_S1x1024x2816_S1024x2816) bitsLt_bf16_f32
def castLast (x : FVec Ideal S1x2816x1024 .f32) : FVec Ideal S2816x1024 .bf16 := truncf .bf16 (shapeCast S2816x1024 x shapeCasts_S1x2816x1024_S2816x1024) bitsLt_bf16_f32

/-- The reference leaves its arguments and no credit. -/
theorem frame_r : Cert.quiescent_NextWeightsReferenceIdeal := fun m ρ _ =>
  (θ_run Cert.NextWeightsReferenceIdeal.defs _ _).mono (fun r h => ⟨fun c => (h c).2.2.2.2.2, sem_eq_zero_of_no_sems (by decide) r.2⟩) (Cert.NextWeightsReferenceIdeal.Value.run m ρ)

/-- From memories agreeing on the arguments both programs end with the same five weights. -/
theorem algebraic : Cert.algebraic_MixerIdeal_NextWeightsReferenceIdeal := fun m ρ m' ρ' _ hm => by
  refine ⟨fun c => castSquare (m ((c.tc : Thread Cert.MixerIdeal.nD Cert.MixerIdeal.τ).loc Cert.MixerIdeal.main_arg8)), fun c => castSquare (m ((c.tc : Thread Cert.MixerIdeal.nD Cert.MixerIdeal.τ).loc Cert.MixerIdeal.main_arg9)),
    fun c => castWide (m ((c.tc : Thread Cert.MixerIdeal.nD Cert.MixerIdeal.τ).loc Cert.MixerIdeal.main_arg10)), fun c => castWide (m ((c.tc : Thread Cert.MixerIdeal.nD Cert.MixerIdeal.τ).loc Cert.MixerIdeal.main_arg11)),
    fun c => castLast (m ((c.tc : Thread Cert.MixerIdeal.nD Cert.MixerIdeal.τ).loc Cert.MixerIdeal.main_arg12)),
    (θ_run Cert.MixerIdeal.defs _ _).mono (fun _ h c => ?_) (θ_run_and (weights m ρ) (frame m ρ)),
    (θ_run Cert.NextWeightsReferenceIdeal.defs _ _).mono (fun _ h c => ?_) (Cert.NextWeightsReferenceIdeal.Value.run m' ρ')⟩
  · obtain ⟨h0, h1, h2, h3, h4⟩ := h.1 c
    exact ⟨h0, h1, h2, h3, h4, h.2.1 c⟩
  · obtain ⟨-, -, -, -, -, -, -, -, e0, e1, e2, e3, e4⟩ := hm c
    obtain ⟨h0, h1, h2, h3, h4, hr⟩ := h c
    exact ⟨h0.trans (congrArg castSquare e0), h1.trans (congrArg castSquare e1), h2.trans (congrArg castWide e2), h3.trans (congrArg castWide e3),
      h4.trans (congrArg castLast e4), hr⟩

end Cert.MixerIdeal.Own
end
-- ==== Proof.lean ====
module

public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvReferenceIdeal
public import proofs.«01_k».proof.Proof.Gen.Pre_queries_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MemKvIdeal.Value
public import proofs.«01_k».proof.Proof.Gen.MemKvReferenceIdeal.Run
public import proofs.«01_k».proof.Proof.Gen.MemKvReferenceIdeal.Read
public import proofs.«01_k».proof.Proof.Xattn.Claims
public import proofs.«01_k».proof.Proof.MemKv.Claims
public import proofs.«01_k».proof.Proof.Mixer.Frame
public import proofs.«01_k».proof.Proof.Mixer.Ideal
public import proofs.«01_k».proof.Proof.Mixer.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.MemKv.Gen.facts, Cert.MemKvIdeal.Gen.facts, Cert.MemKvReferenceIdeal.Gen.facts, Cert.Mixer.Gen.facts, Cert.MixerIdeal.Gen.facts, Cert.NextWeightsReferenceIdeal.Gen.facts, Cert.Pre_queries_finite.Gen.facts,
  fun m ρ _ => Cert.Kernel.Gen.frame m ρ, fun m ρ _ => Cert.KernelIdeal.Gen.frame m ρ, fun m ρ _ => Cert.KernelIdeal.Gen.frame m ρ,
  Cert.Xattn.frame_r, fun m ρ h => Cert.Xattn.frame_r m ρ trivial,
  fun m ρ _ => Cert.MemKv.Gen.frame m ρ, fun m ρ _ => Cert.MemKvIdeal.Gen.frame m ρ, Cert.MemKv.Val.frame_r,
  fun m ρ _ => Cert.Mixer.Own.frame m ρ, fun m ρ _ => Cert.MixerIdeal.Own.frame m ρ, Cert.MixerIdeal.Own.frame_r,
  Cert.Xattn.preserves, Cert.Xattn.algebraic, trivial, Cert.MemKv.Val.algebraic, trivial, Cert.MixerIdeal.Own.algebraic⟩

end Cert.Proof

end
